-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x512 : Shape := ⟨2, ![4096, 512]⟩
abbrev S11x512x512 : Shape := ⟨3, ![11, 512, 512]⟩
abbrev S7x512x512 : Shape := ⟨3, ![7, 512, 512]⟩
abbrev S8 : Shape := ⟨1, ![8]⟩
abbrev S10 : Shape := ⟨1, ![10]⟩
abbrev S_ : Shape := ⟨0, ![]⟩
abbrev S512x512 : Shape := ⟨2, ![512, 512]⟩
abbrev S1 : Shape := ⟨1, ![1]⟩
abbrev S1x512x512 : Shape := ⟨3, ![1, 512, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S4096x512, .f32⟩
  | .local _ .vmem, ⟨0, _⟩ => ⟨S512x4096, .f32⟩
  | .local _ .vmem, ⟨1, _⟩ => ⟨S512x4096, .bf16⟩
  | .local _ .vmem, ⟨2, _⟩ => ⟨S11x512x512, .bf16⟩
  | .local _ .vmem, ⟨3, _⟩ => ⟨S7x512x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.xori v2 c6_i32
  let c1_i32_10 : BitVec 32 := 1#32
  let v14 : BitVec 32 := Scalar.muli v13 c1_i32_10
  let v15 : BitVec 32 := Scalar.addi c0_i32_11 v14
  v15.toNat
def k0_off1 (d0 : Dev nD) (c6_i32_13 : BitVec 32) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c6_i32_13
  let c512_i32 : BitVec 32 := 512#32
  let v17 : BitVec 32 := Scalar.muli v16 c512_i32
  let v18 : Index := Scalar.indexCast v17
  ![0, v18.toNat]
def k0_off2 (d0 : Dev nD) (c6_i32_13 : BitVec 32) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c6_i32_13
  let c512_i32_16 : BitVec 32 := 512#32
  let v27 : BitVec 32 := Scalar.muli v16 c512_i32_16
  ![0, v27.toNat]
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_17 : BitVec 32 := 6#32
  let v28 : BitVec 32 := Scalar.xori v2 c6_i32_17
  let c1_i32_21 : BitVec 32 := 1#32
  let v29 : BitVec 32 := Scalar.muli v28 c1_i32_21
  let v30 : BitVec 32 := Scalar.addi c0_i32_22 v29
  v30.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v50 : BitVec 32 := Scalar.xori v2 c1_i32_31
  let c1_i32_35 : BitVec 32 := 1#32
  let v51 : BitVec 32 := Scalar.muli v50 c1_i32_35
  let v52 : BitVec 32 := Scalar.addi c0_i32_36 v51
  v52.toNat
def k0_dev7 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_45 : BitVec 32 := 3#32
  let v72 : BitVec 32 := Scalar.xori v2 c3_i32_45
  let c1_i32_47 : BitVec 32 := 1#32
  let v73 : BitVec 32 := Scalar.muli v72 c1_i32_47
  let v74 : BitVec 32 := Scalar.addi c0_i32_48 v73
  v74.toNat
def k0_dev8 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v94 : BitVec 32 := Scalar.xori v2 c4_i32_58
  let c1_i32_61 : BitVec 32 := 1#32
  let v95 : BitVec 32 := Scalar.muli v94 c1_i32_61
  let v96 : BitVec 32 := Scalar.addi c0_i32_62 v95
  v96.toNat
def k0_dev9 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v116 : BitVec 32 := Scalar.xori v2 c1_i32_72
  let c1_i32_76 : BitVec 32 := 1#32
  let v117 : BitVec 32 := Scalar.muli v116 c1_i32_76
  let v118 : BitVec 32 := Scalar.addi c0_i32_77 v117
  v118.toNat
def k0_dev10 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_87 : BitVec 32 := 3#32
  let v138 : BitVec 32 := Scalar.xori v2 c3_i32_87
  let c1_i32_91 : BitVec 32 := 1#32
  let v139 : BitVec 32 := Scalar.muli v138 c1_i32_91
  let v140 : BitVec 32 := Scalar.addi c0_i32_92 v139
  v140.toNat
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v160 : BitVec 32 := Scalar.xori v2 c4_i32_102
  let c1_i32_106 : BitVec 32 := 1#32
  let v161 : BitVec 32 := Scalar.muli v160 c1_i32_106
  let v162 : BitVec 32 := Scalar.addi c0_i32_107 v161
  v162.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_112 : BitVec 32 := 512#32
  let v171 : BitVec 32 := Scalar.muli v2 c512_i32_112
  let c0_i32_114 : BitVec 32 := 0#32
  ![v171.toNat, 0]
def k0_off4 (d0 : Dev nD) : Fin 2 → Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_111 : BitVec 32 := 512#32
  let v170 : BitVec 32 := Scalar.muli v2 c512_i32_111
  ![0, v170.toNat]
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_127 : BitVec 32 := 3#32
  let v185 : BitVec 32 := Scalar.xori v2 c3_i32_127
  let c1_i32_132 : BitVec 32 := 1#32
  let v186 : BitVec 32 := Scalar.muli v185 c1_i32_132
  let v187 : BitVec 32 := Scalar.addi c0_i32_133 v186
  v187.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_149 : BitVec 32 := 4#32
  let v205 : BitVec 32 := Scalar.xori v2 c4_i32_149
  let c1_i32_154 : BitVec 32 := 1#32
  let v206 : BitVec 32 := Scalar.muli v205 c1_i32_154
  let v207 : BitVec 32 := Scalar.addi c0_i32_155 v206
  v207.toNat
def k0_dev14 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_171 : BitVec 32 := 1#32
  let v225 : BitVec 32 := Scalar.xori v2 c1_i32_171
  let c1_i32_176 : BitVec 32 := 1#32
  let v226 : BitVec 32 := Scalar.muli v225 c1_i32_176
  let v227 : BitVec 32 := Scalar.addi c0_i32_177 v226
  v227.toNat
def k0_off5 (d0 : Dev nD) (c1_i32_193 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : BitVec 32 := Scalar.xori v2 c1_i32_193
  let c512_i32_199 : BitVec 32 := 512#32
  let v252 : BitVec 32 := Scalar.muli v245 c512_i32_199
  let c0_i32_202 : BitVec 32 := 0#32
  ![v252.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩

abbrev nBuf : Space → Nat
  | .hbm => 1
  | .vmem => 0
  | .smem => 0
  | _ => 0

abbrev bufTy : (tb : Table) → Fin (tcTables nBuf tb) → BufTy
  | .hbm, ⟨0, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Protocol.lean ====
/-
The block exchange on eight devices: who sends which block where, what each semaphore cell stands for, and in which
order a device may wait.

Device `c` holds the rows `512 c … 512 c + 511` of `x`, eight square blocks side by side; it must end with the blocks
of column `c`. The devices are the corners of a cube with two extra links each: a device talks to its four
neighbours `c xor 1, 3, 4, 6` only. Seven blocks leave from the device's own staging buffer (edges 0 to 6), three are passed
on for others (edges 7 to 9).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds and the exchange's, whose duties are named by a mask -/

abbrev UX : Type := URounds (GSem nD τ sig) (Fin 8)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## Partners and the ten edges -/

/-- The partner of device `c` across the mask `k`. -/
def px (k : Fin 8) (c : Dev nD) : Dev nD := ⟨(k.val ^^^ c.val) % 8, Nat.mod_lt _ (by decide)⟩

theorem px_px (k : Fin 8) (c : Dev nD) : px k (px k c) = c := by revert k c; decide
theorem px_zero (c : Dev nD) : px 0 c = c := by revert c; decide

/-- The exchange across the mask `k`, as a permutation of the devices. -/
def pxE (k : Fin 8) : Dev nD ≃ Dev nD := ⟨px k, px k, px_px k, px_px k⟩

/-- The mask across which edge `e` sends. -/
def dm : Fin 10 → Fin 8 := ![1, 3, 4, 6, 1, 3, 4, 3, 4, 1]
/-- The slot of the receiver's buffer that edge `e` fills. -/
def slot : Fin 10 → Fin 11 := ![1, 3, 4, 6, 8, 9, 10, 2, 7, 5]
/-- The mask from the receiver of edge `e` to the device the block first came from. -/
def sm : Fin 10 → Fin 8 := ![1, 3, 4, 6, 1, 3, 4, 2, 7, 5]
/-- The mask from the receiver of edge `e` to the device the block is meant for. -/
def bm : Fin 10 → Fin 8 := ![0, 0, 0, 0, 3, 4, 1, 0, 0, 0]
/-- The mask from the sender of edge `e` (0 to 6) to the device its block is meant for. -/
def cm : Fin 10 → Fin 8 := ![1, 3, 4, 6, 2, 7, 5, 0, 0, 0]
/-- The edge whose block edge `e` (7 to 9) passes on. -/
def fw : Fin 10 → Fin 10 := ![0, 0, 0, 0, 0, 0, 0, 4, 5, 6]
/-- The edge that fills slot `k + 1` of the receiver's buffer. -/
def eo : Fin 7 → Fin 10 := ![0, 7, 1, 2, 9, 3, 8]

/-- The device edge `e` goes to from `c` (and comes from at `c`). -/
abbrev peer (c : Dev nD) (e : Fin 10) : Dev nD := px (dm e) c

theorem own_src (c : Dev nD) (e : Fin 10) (h : e.val < 7) : px (sm e) (peer c e) = c := by
  revert c e; decide
theorem own_blk (c : Dev nD) (e : Fin 10) (h : e.val < 7) : px (bm e) (peer c e) = px (cm e) c := by
  revert c e; decide
theorem fwd_src (c : Dev nD) (e : Fin 10) (h : 7 ≤ e.val) : px (sm e) (peer c e) = px (sm (fw e)) c := by
  revert c e; decide
theorem fwd_blk (c : Dev nD) (e : Fin 10) (h : 7 ≤ e.val) : px (bm e) (peer c e) = px (bm (fw e)) c := by
  revert c e; decide

/-! ## The pieces of the buffers -/

abbrev xM : Memref sig .tc .vmem S512x4096 .f32 := Memref.whole cc0_stg0_0
abbrev oM : Memref sig .tc .hbm S4096x512 .f32 := Memref.whole main_v1
abbrev sM : Memref sig .tc .vmem S512x4096 .bf16 := Memref.whole cc0_scratch0
abbrev rM : Memref sig .tc .vmem S11x512x512 .bf16 := Memref.whole cc0_scratch1
abbrev vM : Memref sig .tc .vmem S7x512x512 .f32 := Memref.whole cc0_scratch2

theorem inbC (k : Dev nD) : ∀ a, (![0, 512 * k.val] : Fin 2 → ℕ) a + S512x512.size a ≤ S512x4096.size a := by
  revert k; decide
theorem inbR (k : Dev nD) : ∀ a, (![512 * k.val, 0] : Fin 2 → ℕ) a + S512x512.size a ≤ S4096x512.size a := by
  revert k; decide
theorem inbS (j : Fin 11) : ∀ a, (![j.val, 0, 0] : Fin 3 → ℕ) a + S1x512x512.size a ≤ S11x512x512.size a := by
  revert j; decide
theorem inbV (j : Fin 7) : ∀ a, (![j.val, 0, 0] : Fin 3 → ℕ) a + S1x512x512.size a ≤ S7x512x512.size a := by
  revert j; decide

/-- Column block `k` of the staged `x`, and of the send buffer. -/
abbrev xC (k : Dev nD) : Memref sig .tc .vmem S512x512 .f32 := xM.slice (Rect.unit (s := S512x4096) ![0, 512 * k.val] S512x512.size (inbC k)) (fun _ => rfl)
abbrev sC (k : Dev nD) : Memref sig .tc .vmem S512x512 .bf16 := sM.slice (Rect.unit (s := S512x4096) ![0, 512 * k.val] S512x512.size (inbC k)) (fun _ => rfl)
/-- Row block `k` of the result. -/
abbrev oR (k : Dev nD) : Memref sig .tc .hbm S512x512 .f32 := oM.slice (Rect.unit (s := S4096x512) ![512 * k.val, 0] S512x512.size (inbR k)) (fun _ => rfl)
/-- Slot `j` of the receive buffer, and of the widened one. -/
abbrev rS (j : Fin 11) : Memref sig .tc .vmem S512x512 .bf16 :=
  (rM.slice (Rect.unit (s := S11x512x512) ![j.val, 0, 0] S1x512x512.size (inbS j)) (fun _ => rfl)).squeeze S512x512 squeezes_S1x512x512_S512x512
abbrev vS (j : Fin 7) : Memref sig .tc .vmem S512x512 .f32 :=
  (vM.slice (Rect.unit (s := S7x512x512) ![j.val, 0, 0] S1x512x512.size (inbV j)) (fun _ => rfl)).squeeze S512x512 squeezes_S1x512x512_S512x512

/-- A piece held whole at the contents `X`, and at some contents. -/
abbrev piece (c : Dev nD) {sp : Space} {s : Shape} {e : EltTy} (M : Memref sig .tc sp s e) (X : s.Idx → Elt F e) : sProp 𝕄 :=
  owns (c : Thread nD τ) M fullShare X
def junk (c : Dev nD) {sp : Space} {s : Shape} {e : EltTy} (M : Memref sig .tc sp s e) : sProp 𝕄 :=
  iprop(∃ X, owns (c : Thread nD τ) M fullShare X)

omit [FloatOps F] in
instance junk_storable (c : Dev nD) {sp : Space} {s : Shape} {e : EltTy} (M : Memref sig .tc sp s e) :
    BI.Storable (upEmb : UEmb _ 𝕄) (junk (F := F) c M) := by unfold junk; infer_instance

/-! ## The contents -/

/-- The memory's `x` on device `c`, as the pipeline stages it. -/
def xstg (c : Dev nD) : (cc0_stg0_0 : Ref sig .tc).ty.Contents (Elt F) :=
  (win0_0.blk (0 : Fin 1)).view.read (Elt F) (m ((c : Thread nD τ).loc main_arg0))
/-- Column block `k` of device `c`'s rows. -/
def xb (c k : Dev nD) : Vec F S512x512 .f32 := (xC k).view.read (Elt F) (xstg m c)
/-- A block narrowed for the wire, and widened again. -/
def dn (X : Vec F S512x512 .f32) : Vec F S512x512 .bf16 := k0_pay1 X
def up (Y : Vec F S512x512 .bf16) : Vec F S512x512 .f32 := extf .f32 Y bitsLt_bf16_f32
/-- What edge `e` brings device `c`. -/
def recvX (c : Dev nD) (e : Fin 10) : Vec F S512x512 .bf16 := dn (xb m (px (sm e) c) (px (bm e) c))

theorem recvX_own (c : Dev nD) (e : Fin 10) (h : e.val < 7) : recvX m (peer c e) e = dn (xb m c (px (cm e) c)) := by
  unfold recvX; rw [own_src c e h, own_blk c e h]
theorem recvX_fwd (c : Dev nD) (e : Fin 10) (h : 7 ≤ e.val) : recvX m (peer c e) e = recvX m c (fw e) := by
  unfold recvX; rw [fwd_src c e h, fwd_blk c e h]

/-! ## The cells -/

/-- The barrier semaphore, and the three families of transfer semaphores. -/
abbrev barS : Sem sig := (SemArray.scalar (sig.barrier 0 rfl) : Sems sig S_).sem
def outS (k : Fin 8) : DmaSem sig := ⟨1 + k.val, by have := k.isLt; show _ < 29; omega⟩
def sndS (e : Fin 10) : DmaSem sig := ⟨9 + e.val, by have := e.isLt; show _ < 29; omega⟩
def rcvS (e : Fin 10) : DmaSem sig := ⟨19 + e.val, by have := e.isLt; show _ < 29; omega⟩

abbrev barC (c : Dev nD) : GSem nD τ sig := ((c : Thread nD τ), .reg barS)
abbrev outC (c : Dev nD) (k : Fin 8) : GSem nD τ sig := ((c : Thread nD τ), .dma (outS k))
abbrev sndC (c : Dev nD) (e : Fin 10) : GSem nD τ sig := ((c : Thread nD τ), .dma (sndS e))
abbrev rcvC (c : Dev nD) (e : Fin 10) : GSem nD τ sig := ((c : Thread nD τ), .dma (rcvS e))

/-- What a transfer semaphore is for. -/
inductive Role
  | none
  | out (k : Fin 8)
  | snd (e : Fin 10)
  | rcv (e : Fin 10)

def role (q : DmaSem sig) : Role :=
  if h0 : q.val = 0 then .none
  else if h1 : q.val < 9 then .out ⟨q.val - 1, by omega⟩
  else if h2 : q.val < 19 then .snd ⟨q.val - 9, by omega⟩
  else .rcv ⟨q.val - 19, by have : q.val < 29 := q.isLt; omega⟩

theorem role_out (k : Fin 8) : role (outS k) = .out k := by
  have := k.isLt
  unfold role outS; simp only []
  rw [dif_neg (by omega), dif_pos (by omega)]; exact congrArg Role.out (Fin.ext (by simp))
theorem role_snd (e : Fin 10) : role (sndS e) = .snd e := by
  have := e.isLt
  unfold role sndS; simp only []
  rw [dif_neg (by omega), dif_neg (by omega), dif_pos (by omega)]; exact congrArg Role.snd (Fin.ext (by simp))
theorem role_rcv (e : Fin 10) : role (rcvS e) = .rcv e := by
  have := e.isLt
  unfold role rcvS; simp only []
  rw [dif_neg (by omega), dif_neg (by omega), dif_neg (by omega)]; exact congrArg Role.rcv (Fin.ext (by simp))

/-- The credit of a narrow block and of a wide one. -/
def N16 : ℕ := (rS 0).view.dmaCredit
def N32 : ℕ := (oR 0).view.dmaCredit
theorem N16_pos : 0 < N16 := by unfold N16; exact View.dmaCredit_pos _ (by decide)
theorem N32_pos : 0 < N32 := by unfold N32; exact View.dmaCredit_pos _ (by decide)

/-! ## The schedule -/

/-- The buffer piece edge `e` leaves from. -/
def srcV (c : Dev nD) (e : Fin 10) : Memref sig .tc .vmem S512x512 .bf16 :=
  if e.val < 7 then sC (px (cm e) c) else rS (slot (fw e))

/-- The slots of `p`'s receive buffer the partner across mask `k` writes. -/
def lend (p : Dev nD) (k : Fin 8) : sProp 𝕄 :=
  if k = 1 then iprop(junk p (rS 1) ∗ junk p (rS 8) ∗ junk p (rS 5))
  else if k = 3 then iprop(junk p (rS 3) ∗ junk p (rS 9) ∗ junk p (rS 2))
  else if k = 4 then iprop(junk p (rS 4) ∗ junk p (rS 10) ∗ junk p (rS 7))
  else junk p (rS 6)

/-- The elements of column block `k` of the staged `x`, at `x`. -/
def xP (c k : Dev nD) : sProp 𝕄 := (xC k).view.loc (c : Thread nD τ) ↦[(xC k).view.set]{fullShare} xstg m c

omit [FloatOps F] in
instance xP_storable (c k : Dev nD) : BI.Storable (upEmb : UEmb _ 𝕄) (xP (F := F) m c k) := by unfold xP; infer_instance

/-- What an output copy gives back: the result's rows written, and the buffer piece it read. -/
def outPay (c : Dev nD) (k : Fin 8) : sProp 𝕄 :=
  if h : k.val < 7 then iprop(piece c (oR (px ⟨k.val + 1, by omega⟩ c)) (up (recvX m c (eo ⟨k.val, h⟩))) ∗ junk c (vS ⟨k.val, h⟩))
  else iprop(piece c (oR c) (xb m c c) ∗ xP m c c)

def rolePay (c : Dev nD) : Role → sProp 𝕄
  | .none => iprop(emp)
  | .out k => outPay m c k
  | .snd e => junk c (srcV c e)
  | .rcv e => piece c (rS (slot e)) (recvX m c e)

omit [FloatOps F] in
instance lend_storable (p : Dev nD) (k : Fin 8) : BI.Storable (upEmb : UEmb _ 𝕄) (lend (F := F) p k) := by
  unfold lend; (repeat' split) <;> infer_instance
instance outPay_storable (c : Dev nD) (k : Fin 8) : BI.Storable (upEmb : UEmb _ 𝕄) (outPay (F := F) m c k) := by
  unfold outPay
  by_cases h : k.val < 7
  · rw [dif_pos h]; infer_instance
  · rw [dif_neg h]; infer_instance
instance rolePay_storable (c : Dev nD) : (r : Role) → BI.Storable (upEmb : UEmb _ 𝕄) (rolePay (F := F) m c r)
  | .none => by unfold rolePay; infer_instance
  | .out k => outPay_storable m c k
  | .snd e => junk_storable c (srcV c e)
  | .rcv e => owns_storable _ _ _ _

def roleAmt : Role → ℕ
  | .out _ => N32
  | _ => N16

theorem roleAmt_pos : ∀ r : Role, 0 < roleAmt r
  | .none => N16_pos
  | .out _ => N32_pos
  | .snd _ => N16_pos
  | .rcv _ => N16_pos

/-- The four neighbour masks. -/
def nbs : Finset (Fin 8) := {1, 3, 4, 6}

/-- One round. A barrier cell is paid one unit by each neighbour, which lends the slots its cell's owner writes; a transfer cell is paid
    by its one transfer. -/
def Rd : Rounds.Schedule (GSem nD τ sig) (Fin 8) 𝕄 where
  duties g r := if r = 0 ∧ g.1.2 = .tc then (match g.2 with | .reg _ => nbs | .dma _ => {0}) else ∅
  unitless _ := False
  amount g _ _ := match g.2 with | .reg _ => 1 | .dma q => roleAmt (role q)
  payload g _ d := match g.2 with | .reg _ => lend (px d g.1.1) d | .dma q => rolePay m g.1.1 (role q)
  amount_pos g _ _ _ := by split; · exact Nat.one_pos
                           · exact roleAmt_pos _

instance Rd_payload_storable (g : GSem nD τ sig) (r : ℕ) (d : Fin 8) :
    BI.Storable (upEmb : UEmb _ 𝕄) ((Rd (F := F) m).payload g r d) := by
  show BI.Storable upEmb (match g.2 with | .reg _ => lend (px d g.1.1) d | .dma q => rolePay m g.1.1 (role q))
  split <;> infer_instance

section Sched
variable (c : Dev nD) (q : DmaSem sig)

theorem duties_bar : (Rd (F := F) m).duties (barC c) 0 = nbs := by dsimp only [Rd]; exact if_pos ⟨rfl, rfl⟩
theorem duties_dma : (Rd (F := F) m).duties ((c : Thread nD τ), .dma q) 0 = {0} := by dsimp only [Rd]; exact if_pos ⟨rfl, rfl⟩
theorem duties_later (g : GSem nD τ sig) : ∀ r, 1 ≤ r → (Rd (F := F) m).duties g r = ∅ :=
  fun r hr => by dsimp only [Rd]; rw [if_neg fun h => by omega]
theorem amount_bar (d : Fin 8) : (Rd (F := F) m).amount (barC c) 0 d = 1 := rfl
theorem amount_dma (d : Fin 8) : (Rd (F := F) m).amount ((c : Thread nD τ), .dma q) 0 d = roleAmt (role q) := rfl
theorem expect_bar : (Rd (F := F) m).expect (barC c) 0 = 4 := by
  unfold Schedule.expect Schedule.amountOf
  rw [duties_bar, Finset.sum_congr rfl fun d _ => amount_bar m c d]; decide
theorem expect_dma : (Rd (F := F) m).expect ((c : Thread nD τ), .dma q) 0 = roleAmt (role q) := by
  unfold Schedule.expect Schedule.amountOf; rw [duties_dma, Finset.sum_singleton, amount_dma]
theorem payload_bar (d : Fin 8) : (Rd (F := F) m).payload (barC c) 0 d = lend (px d c) d := rfl
theorem payload_dma (d : Fin 8) : (Rd (F := F) m).payload ((c : Thread nD τ), .dma q) 0 d = rolePay m c (role q) := rfl

/-- The barrier's round: the slots of all four neighbours. -/
theorem rest_bar : bigSep ((Rd (F := F) m).duties (barC c) 0 \ ∅) (fun d => (Rd (F := F) m).payload (barC c) 0 d)
    = iprop(lend (px 1 c) 1 ∗ lend (px 3 c) 3 ∗ lend (px 4 c) 4 ∗ lend (px 6 c) 6) := by
  rw [Finset.sdiff_empty, duties_bar, bigSep_eq_bigSepL_of_eq [1, 3, 4, 6] (by decide) (by decide)]; rfl
/-- A transfer's round: its payload. -/
theorem rest_dma : bigSep ((Rd (F := F) m).duties ((c : Thread nD τ), .dma q) 0 \ ∅) (fun d => (Rd (F := F) m).payload ((c : Thread nD τ), .dma q) 0 d)
    = rolePay m c (role q) := by
  rw [Finset.sdiff_empty, duties_dma, bigSep_singleton, payload_dma]
end Sched

/-! ## What a device owes, and the levels -/

/-- The credits of the edges in `l`, owed to their receivers. -/
def OT (c : Dev nD) : List (Fin 10) → CellTallies nD τ sig Unit
  | [] => 0
  | e :: l => OT c l + tallyAt (rcvC (peer c e) e) () N16
/-- The edges in the order the body starts them. -/
def order : List (Fin 10) := [3, 4, 5, 6, 0, 1, 2, 7, 8, 9]
/-- The barrier units owed to the partners across the masks in `l`, beside all the edges' credits. -/
def OB (c : Dev nD) : List (Fin 8) → CellTallies nD τ sig Unit
  | [] => OT c order
  | k :: l => OB c l + tallyAt (barC (px k c)) () 1
/-- What device `c` owes at launch. -/
def O₀ (c : Dev nD) : CellTallies nD τ sig Unit := OB c [1, 3, 4, 6]

def L (g : GSem nD τ sig) : Finset Unit := if g.1.2 = .tc then {()} else ∅
/-- Barrier cells at 1, the first seven edges' receive cells at 2, the last three's at 3, all others at 0. -/
def lv (g : GSem nD τ sig) (_ : Unit) : ℕ := match g.2 with
  | .reg _ => 1
  | .dma q => if q.val < 19 then 0 else if q.val < 26 then 2 else 3

theorem L_of_ne (g : GSem nD τ sig) (h : g.1.2 ≠ .tc) : L g = ∅ := if_neg h
theorem L_tc (c : Dev nD) (s : SemLoc sig) : () ∈ L ((c : Thread nD τ), s) := by unfold L; rw [if_pos rfl]; exact Finset.mem_singleton_self _

theorem OT_pos {c : Dev nD} {g : GSem nD τ sig} {u : Unit} : ∀ {l : List (Fin 10)}, 0 < OT c l g u → ∃ e ∈ l, g = rcvC (peer c e) e
  | [], h => absurd h (Nat.lt_irrefl 0)
  | e :: l, h => by
    rcases Pipeline.add_pos_cases (D₁ := OT c l) h with h | h
    · obtain ⟨e', he', hg⟩ := OT_pos h; exact ⟨e', List.mem_cons_of_mem _ he', hg⟩
    · exact ⟨e, List.mem_cons_self, (Pipeline.tallyAt_pos h).1⟩
theorem OB_pos {c : Dev nD} {g : GSem nD τ sig} {u : Unit} : ∀ {l : List (Fin 8)}, 0 < OB c l g u →
    (∃ e, g = rcvC (peer c e) e) ∨ ∃ k, g = barC (px k c)
  | [], h => by obtain ⟨e, -, hg⟩ := OT_pos (l := order) h; exact .inl ⟨e, hg⟩
  | k :: l, h => by
    rcases Pipeline.add_pos_cases (D₁ := OB c l) h with h | h
    · exact OB_pos h
    · exact .inr ⟨k, (Pipeline.tallyAt_pos h).1⟩

theorem lv_rcv (c : Dev nD) (e : Fin 10) : lv (rcvC c e) () = if e.val < 7 then 2 else 3 := by
  revert e; intro e; fin_cases e <;> rfl

/-- A wait on a cell of level 0 is allowed whatever of these the device owes; -/
theorem mayWait_low (c : Dev nD) (q : DmaSem sig) (hq : q.val < 19) (O : CellTallies nD τ sig Unit) (hO : O = O₀ c ∨ O = 0) :
    (levAts L lv : sProp 𝕄) ⊢ MayWait (c : Thread nD τ) (.dma q) () O := by
  refine Pipeline.mayWait_of_levAts (L_tc _ _) fun g i hg => ?_
  have h0 : lv ((c : Thread nD τ), .dma q) () = 0 := if_pos hq
  rcases hO with rfl | rfl
  · rcases OB_pos (l := [1, 3, 4, 6]) hg with ⟨e, rfl⟩ | ⟨k, rfl⟩
    · refine ⟨L_tc _ _, ?_⟩; rw [h0, lv_rcv]; split <;> decide
    · refine ⟨L_tc _ _, ?_⟩; rw [h0]; exact Nat.one_pos
  · exact absurd hg (Nat.lt_irrefl 0)
/-- the barrier wait while it owes edges only; -/
theorem mayWait_bar (c : Dev nD) : (levAts L lv : sProp 𝕄) ⊢ MayWait (c : Thread nD τ) (.reg barS) () (OT c order) := by
  refine Pipeline.mayWait_of_levAts (L_tc _ _) fun g i hg => ?_
  obtain ⟨e, -, rfl⟩ := OT_pos hg
  refine ⟨L_tc _ _, ?_⟩
  rw [show lv ((c : Thread nD τ), .reg barS) () = 1 from rfl, lv_rcv]; split <;> decide
/-- the wait for one of the first seven edges while it owes only blocks it passes on. -/
theorem mayWait_rcv (c : Dev nD) (e : Fin 10) (he : e.val < 7) (l : List (Fin 10)) (hl : ∀ e' ∈ l, 7 ≤ e'.val) :
    (levAts L lv : sProp 𝕄) ⊢ MayWait (c : Thread nD τ) (.dma (rcvS e)) () (OT c l) := by
  refine Pipeline.mayWait_of_levAts (L_tc _ _) fun g i hg => ?_
  obtain ⟨e', he', rfl⟩ := OT_pos hg
  refine ⟨L_tc _ _, ?_⟩
  rw [lv_rcv c e, lv_rcv, if_pos he, if_neg (by have := hl e' he'; omega)]; decide

end Cert.Exchange

end
-- ==== Proof.Steps.lean ====
/-
One lemma for each kind of step the kernel's body takes: a load or store of one piece, a signal, a remote copy, a
local copy, a wait.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c`'s TensorCore run to the postcondition `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- A device's cells by number: its barrier cell, then its transfer cells. -/
abbrev csem (i : Fin 29) : SemLoc sig := if i.val = 0 then .reg barS else .dma (i : DmaSem sig)
abbrev kcell (ci : Dev nD × Fin 29) : GSem nD τ sig := ((ci.1 : Thread nD τ), csem ci.2)

/-- Every cell's invariant, and that every cell has reached its round. -/
def records (K : Dev nD × Fin 29 → ℕ) : sProp 𝕄 :=
  iprop((bigSep Finset.univ fun ci : Dev nD × Fin 29 => cellInv ER (Rd m) (K ci) (kcell ci))
    ∗ bigSep Finset.univ fun ci : Dev nD × Fin 29 => reached ER (kcell ci) 0)

instance records_persistent (K : Dev nD × Fin 29 → ℕ) : BI.Persistent (records m K) := by unfold records; infer_instance

variable (K : Dev nD × Fin 29 → ℕ)

theorem records_at (ci : Dev nD × Fin 29) : records m K ⊢ iprop(cellInv ER (Rd m) (K ci) (kcell ci) ∗ reached ER (kcell ci) 0) := by
  unfold records
  exact BI.sep_mono (bigSep_elim (Finset.mem_univ ci)) (bigSep_elim (Finset.mem_univ ci))

theorem records_bar (c : Dev nD) : records m K ⊢ iprop(cellInv ER (Rd m) (K (c, 0)) (barC c) ∗ reached ER (barC c) 0) :=
  records_at m K (c, 0)
theorem records_dma (c : Dev nD) (q : DmaSem sig) (hq : 0 < q.val) :
    records m K ⊢ iprop(cellInv ER (Rd m) (K (c, q)) ((c : Thread nD τ), .dma q) ∗ reached ER ((c : Thread nD τ), .dma q) 0) := by
  have h := records_at m K (c, q)
  have e : kcell (c, q) = ((c : Thread nD τ), .dma q) := by unfold kcell csem; rw [if_neg (by exact Nat.pos_iff_ne_zero.mp hq)]
  rw [e] at h; exact h

theorem outS_pos (k : Fin 8) : 0 < (outS k).val := by unfold outS; show 0 < 1 + k.val; omega
theorem sndS_pos (e : Fin 10) : 0 < (sndS e).val := by unfold sndS; show 0 < 9 + e.val; omega
theorem rcvS_pos (e : Fin 10) : 0 < (rcvS e).val := by unfold rcvS; show 0 < 19 + e.val; omega

/-- What device `c` owes, whatever it has waited for. -/
def ow (c : Dev nD) (O : CellTallies nD τ sig Unit) : sProp 𝕄 := iprop(∃ W, owes (c : Thread nD τ) O W)
/-- A transfer cell before its transfer: the right to pay it, and the owner's place at it. -/
def tok (c : Dev nD) (q : DmaSem sig) : sProp 𝕄 := iprop(dutyTok ER ((c : Thread nD τ), .dma q) 0 0 ∗ atPos ER ((c : Thread nD τ), .dma q) 0 ∅ 0)
/-- A transfer cell the owner may wait on. -/
def busy (c : Dev nD) (q : DmaSem sig) : sProp 𝕄 :=
  iprop(cred (tallyAt ((c : Thread nD τ), .dma q) () (roleAmt (role q))) ∗ atPos ER ((c : Thread nD τ), .dma q) 0 ∅ 0)
/-- A transfer cell done with: its counter is back at zero. -/
def done (c : Dev nD) (q : DmaSem sig) : sProp 𝕄 := semVal ((c : Thread nD τ), .dma q) 0

/-! ## Loads and stores of one piece -/

omit [FloatOps F] in
/-- A view's contents from those of its reshaping. -/
theorem read_reshape_back {κ : Kind} {sp : Space} {s s' : Shape} {e : EltTy} (v : View sig κ sp s e) (h : s'.numel = s.numel) (h' : s'.ShapeCasts s)
    (f : v.ty.Contents (Elt F)) : v.read (Elt F) f = shapeCast s ((v.reshape s' h).read (Elt F) f) h' := by
  funext x
  show v.read (Elt F) f x = v.read (Elt F) f (Shape.reshapeEquiv h (Shape.reshapeEquiv _ x))
  rw [Shape.reshapeEquiv_reshapeEquiv, Shape.reshapeEquiv_self]

omit [FloatOps F] in
/-- Contents written through a view and read through its reshaping. -/
theorem read_write_reshape {κ : Kind} {sp : Space} {s s' : Shape} {e : EltTy} (v : View sig κ sp s e) (h : s'.numel = s.numel) (h' : s'.ShapeCasts s)
    (f : v.ty.Contents (Elt F)) (X : s'.Idx → Elt F e) :
    (v.reshape s' h).read (Elt F) (v.write (Elt F) f (shapeCast s X h') Finset.univ) = X := by
  funext x
  show v.read (Elt F) _ (Shape.reshapeEquiv h x) = X x
  rw [View.read_write_univ]
  show X (Shape.reshapeEquiv _ (Shape.reshapeEquiv _ x)) = X x
  rw [Shape.reshapeEquiv_reshapeEquiv, Shape.reshapeEquiv_self]

section Mem
variable {α : Type} {Q : α → sProp (MT nD τ sig Unit (Elt F) ℕ UU ℕ)} (c : Dev nD)

/-- A load of a column block of the staged `x`. -/
theorem wp_ldx (k : Dev nD) {o : Fin 2 → ℕ} (ho : o = ![0, 512 * k.val]) {inb : ∀ a, o a + S512x512.size a ≤ S512x4096.size a}
    {hl : xM.view.LoadsAt (Rect.unit (s := S512x4096) o S512x512.size inb).toLoadRect}
    {kk : Vec F S512x512 .f32 → Prog (TpuEff nD τ sig (Elt F) Λ₀ .tc) α} :
    xP m c k ⊢ iprop((xP m c k -∗ wpc c (kk (xb m c k)) Q)
      -∗ wpc c (.op (.load xM (Rect.unit (s := S512x4096) o S512x512.size inb).toLoadRect hl) kk) Q) := by
  subst ho; unfold xP
  exact wp_load_rect 𝒱₀ (c : Thread nD τ) none Set.univ (m := xM) (r := Rect.unit (s := S512x4096) ![0, 512 * k.val] S512x512.size (inbC k)) (Finset.Subset.refl _)

/-- A load of a column block of the send buffer, whatever is in it. -/
theorem wp_lds (k : Dev nD) {o : Fin 2 → ℕ} (ho : o = ![0, 512 * k.val]) {inb : ∀ a, o a + S512x512.size a ≤ S512x4096.size a}
    {hl : sM.view.LoadsAt (Rect.unit (s := S512x4096) o S512x512.size inb).toLoadRect}
    {kk : Vec F S512x512 .bf16 → Prog (TpuEff nD τ sig (Elt F) Λ₀ .tc) α} :
    junk c (sC k) ⊢ iprop((∀ v, junk c (sC k) -∗ wpc c (kk v) Q)
      -∗ wpc c (.op (.load sM (Rect.unit (s := S512x4096) o S512x512.size inb).toLoadRect hl) kk) Q) := by
  subst ho; unfold junk owns
  iintro ⟨%X, %f, %hf, H⟩ Hk
  iapply (wp_load_rect 𝒱₀ (c : Thread nD τ) none Set.univ (m := sM) (r := Rect.unit (s := S512x4096) ![0, 512 * k.val] S512x512.size (inbC k)) (Finset.Subset.refl _)) $$ H
  iintro H
  iapply Hk
  iexists X; iexists f; isplitr
  · ipureintro; exact hf
  · iexact H

/-- A store over a column block of the send buffer. -/
theorem wp_sts (k : Dev nD) {o : Fin 2 → ℕ} (ho : o = ![0, 512 * k.val]) {inb : ∀ a, o a + S512x512.size a ≤ S512x4096.size a}
    {w : Vec F S512x512 .bf16}
    {hx : (sM.access (Rect.unit (s := S512x4096) o S512x512.size inb)).Stores Finset.univ}
    {hm : (Finset.univ : Finset S512x512.Idx) = Finset.univ ∨ ∀ a, (Rect.unit (s := S512x4096) o S512x512.size inb).stride a = 1}
    {kk : PUnit → Prog (TpuEff nD τ sig (Elt F) Λ₀ .tc) α} :
    junk c (sC k) ⊢ iprop((piece c (sC k) w -∗ wpc c (kk ⟨⟩) Q)
      -∗ wpc c (.op (.store sM (Rect.unit (s := S512x4096) o S512x512.size inb) w Finset.univ hx hm) kk) Q) := by
  subst ho; unfold junk piece owns
  iintro ⟨%X, %f, %hf, H⟩ Hk
  iapply (wp_store 𝒱₀ (c : Thread nD τ) none Set.univ (m := sM) (r := Rect.unit (s := S512x4096) ![0, 512 * k.val] S512x512.size (inbC k))
    (Mk := Finset.univ) (by rw [View.setOn_univ])) $$ H
  iintro H
  iapply Hk
  iexists _; isplitr
  · ipureintro; exact View.read_write_univ (v := (sC k).view) f w
  · iexact H

/-- A load of a slot of the receive buffer. -/
theorem wp_ldr (j : Fin 11) (Y : Vec F S512x512 .bf16)
    {hl : rM.view.LoadsAt (Rect.unit (s := S11x512x512) ![j.val, 0, 0] S1x512x512.size (inbS j)).toLoadRect}
    {kk : Vec F S1x512x512 .bf16 → Prog (TpuEff nD τ sig (Elt F) Λ₀ .tc) α} :
    piece c (rS j) Y ⊢ iprop((piece c (rS j) Y -∗ wpc c (kk (shapeCast S1x512x512 Y shapeCasts_S512x512_S1x512x512)) Q)
      -∗ wpc c (.op (.load rM (Rect.unit (s := S11x512x512) ![j.val, 0, 0] S1x512x512.size (inbS j)).toLoadRect hl) kk) Q) := by
  unfold piece owns
  iintro ⟨%f, %hf, H⟩ Hk
  iapply (wp_load_rect 𝒱₀ (c : Thread nD τ) none Set.univ (m := rM) (r := Rect.unit (s := S11x512x512) ![j.val, 0, 0] S1x512x512.size (inbS j))
    (subset_of_eq (View.set_reshape _ _).symm)) $$ H
  iintro H
  have e : (rM.access (Rect.unit (s := S11x512x512) ![j.val, 0, 0] S1x512x512.size (inbS j))).read (Elt F) f
      = shapeCast S1x512x512 Y shapeCasts_S512x512_S1x512x512 := by
    subst hf; exact read_reshape_back (rM.access (Rect.unit (s := S11x512x512) ![j.val, 0, 0] S1x512x512.size (inbS j))) _ _ f
  rw [e]
  iapply Hk
  iexists f; isplitr
  · ipureintro; exact hf
  · iexact H

/-- A load of a slot of the widened buffer, whatever is in it. -/
theorem wp_ldv (j : Fin 7)
    {hl : vM.view.LoadsAt (Rect.unit (s := S7x512x512) ![j.val, 0, 0] S1x512x512.size (inbV j)).toLoadRect}
    {kk : Vec F S1x512x512 .f32 → Prog (TpuEff nD τ sig (Elt F) Λ₀ .tc) α} :
    junk c (vS j) ⊢ iprop((∀ v, junk c (vS j) -∗ wpc c (kk v) Q)
      -∗ wpc c (.op (.load vM (Rect.unit (s := S7x512x512) ![j.val, 0, 0] S1x512x512.size (inbV j)).toLoadRect hl) kk) Q) := by
  unfold junk owns
  iintro ⟨%X, %f, %hf, H⟩ Hk
  iapply (wp_load_rect 𝒱₀ (c : Thread nD τ) none Set.univ (m := vM) (r := Rect.unit (s := S7x512x512) ![j.val, 0, 0] S1x512x512.size (inbV j))
    (subset_of_eq (View.set_reshape _ _).symm)) $$ H
  iintro H
  iapply Hk
  iexists X; iexists f; isplitr
  · ipureintro; exact hf
  · iexact H

/-- A store over a slot of the widened buffer. -/
theorem wp_stv (j : Fin 7) {w : Vec F S1x512x512 .f32} (X : Vec F S512x512 .f32) (hX : w = shapeCast S1x512x512 X shapeCasts_S512x512_S1x512x512)
    {hx : (vM.access (Rect.unit (s := S7x512x512) ![j.val, 0, 0] S1x512x512.size (inbV j))).Stores Finset.univ}
    {hm : (Finset.univ : Finset S1x512x512.Idx) = Finset.univ ∨ ∀ a, (Rect.unit (s := S7x512x512) ![j.val, 0, 0] S1x512x512.size (inbV j)).stride a = 1}
    {kk : PUnit → Prog (TpuEff nD τ sig (Elt F) Λ₀ .tc) α} :
    junk c (vS j) ⊢ iprop((piece c (vS j) X -∗ wpc c (kk ⟨⟩) Q)
      -∗ wpc c (.op (.store vM (Rect.unit (s := S7x512x512) ![j.val, 0, 0] S1x512x512.size (inbV j)) w Finset.univ hx hm) kk) Q) := by
  unfold junk piece owns
  iintro ⟨%X', %f, %hf, H⟩ Hk
  have hs : (vS j).view.set = (vM.access (Rect.unit (s := S7x512x512) ![j.val, 0, 0] S1x512x512.size (inbV j))).set := by
    exact View.set_reshape _ _
  iapply (wp_store 𝒱₀ (c : Thread nD τ) none Set.univ (m := vM) (r := Rect.unit (s := S7x512x512) ![j.val, 0, 0] S1x512x512.size (inbV j))
    (Mk := Finset.univ) (by rw [View.setOn_univ, hs])) $$ H
  iintro H
  iapply Hk
  iexists _; isplitr
  swap
  · iexact H
  · ipureintro
    rw [hX]; exact read_write_reshape (vM.access (Rect.unit (s := S7x512x512) ![j.val, 0, 0] S1x512x512.size (inbV j))) _ _ f X

end Mem

/-! ## Signals, copies and waits -/

section Talk
variable {α : Type} {Q : α → sProp (MT nD τ sig Unit (Elt F) ℕ UU ℕ)} (c : Dev nD)

/-- The entry signal to the partner across the mask `k`, which lends it the slots it writes. -/
theorem wp_sig (k : Fin 8) (hk : k ∈ nbs) {d : Dev nD} (hd : d = px k c) {n : ℕ} (hn : n = 1) (O : CellTallies nD τ sig Unit)
    {kk : PUnit → Prog (TpuEff nD τ sig (Elt F) Λ₀ .tc) α} :
    iprop(records m K ∗ ow c (O + tallyAt (barC (px k c)) () 1) ∗ dutyTok ER (barC (px k c)) 0 k ∗ lend c k)
      ⊢ iprop((ow c O -∗ wpc c (kk ⟨⟩) Q) -∗ wpc c (.op (.semSignal (d : Thread nD τ) barS n) kk) Q) := by
  subst hd; subst hn; unfold ow
  iintro ⟨#HR, ⟨%W, HO⟩, Ht, Hl⟩ Hk
  ihave Hr := (records_bar m K (px k c)) $$ HR
  icases Hr with ⟨#HI, #Hr⟩
  iapply (Rounds.wp_signal 𝒱₀ ER (Rd m) (c : Thread nD τ) none (dst := (px k c : Thread nD τ)) (κ := K (px k c, 0))
      (d := k) (by rw [duties_bar]; exact hk) (amount_bar m (px k c) k) () O rfl) $$ [HO Ht Hl]
  · isplitr; · iexact HI
    isplitl [HO]; · iexact HO
    isplitl [Ht]; · iexact Ht
    isplitl [Hl]; · rw [payload_bar, px_px]; iexact Hl
    iexact Hr
  iintro HO
  iapply Hk; iexists W; iexact HO

/-- The wait for the four entry signals. -/
theorem wp_bar {n : ℕ} (hn : n = 4)
    {kk : PUnit → Prog (TpuEff nD τ sig (Elt F) Λ₀ .tc) α} :
    iprop(records m K ∗ levAts L lv ∗ ow c (OT c order) ∗ cred (tallyAt (barC c) () 4) ∗ atPos ER (barC c) 0 ∅ 0)
      ⊢ iprop((ow c (OT c order) ∗ semVal (barC c) 0 ∗ lend (px 1 c) 1 ∗ lend (px 3 c) 3 ∗ lend (px 4 c) 4 ∗ lend (px 6 c) 6 -∗ wpc c (kk ⟨⟩) Q)
        -∗ wpc c (.op (.semWait barS n) kk) Q) := by
  subst hn; unfold ow
  iintro ⟨#HR, #Hlev, ⟨%W, HO⟩, Hc, Hat⟩ Hk
  ihave Hr := (records_bar m K c) $$ HR
  icases Hr with ⟨#HI, #Hr⟩
  iapply (Rounds.wp_wait_rest_token 𝒱₀ ER (Rd m) (c : Thread nD τ) none (κ := K (c, 0))
      (wpE_semWait_eq 𝒱₀ (c : Thread nD τ) none Set.univ) (Set.mem_univ _) () (O := OT c order) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barC c))) $$ [Hat] with Hz
  · isplitr; · iexact HI
    iexact Hat
  iapply Hk
  isplitl [HO]; · iexists _; iexact HO
  isplitl [Hz]; · iexact Hz
  iexact Hp

/-- A wait on a transfer cell: its payload. -/
theorem wp_wt {q : DmaSem sig} (p : DmaSem sig) (hp : q = p) (hq : 0 < p.val) (O : CellTallies nD τ sig Unit)
    (hO : (levAts L lv : sProp 𝕄) ⊢ MayWait (c : Thread nD τ) (.dma p) () O)
    {sp sp' : Space} {s s' : Shape} {e e' : EltTy} {src : Memref sig .tc sp s e} {dst : Memref sig .tc sp' s' e'}
    {hs : src.view.WordExact} {hd : dst.view.WordExact}
    (hc : dst.view.dmaCredit = roleAmt (role p))
    {kk : PUnit → Prog (TpuEff nD τ sig (Elt F) Λ₀ .tc) α} :
    iprop(records m K ∗ levAts L lv ∗ ow c O ∗ busy c p)
      ⊢ iprop((ow c O ∗ done c p ∗ rolePay m c (role p) -∗ wpc c (kk ⟨⟩) Q)
        -∗ wpc c (.op (.waitDma2 q src dst hs hd) kk) Q) := by
  subst hp; unfold ow busy done
  iintro ⟨#HR, #Hlev, ⟨%W, HO⟩, Hc, Hat⟩ Hk
  ihave Hr := (records_dma m K c q hq) $$ HR
  icases Hr with ⟨#HI, #Hr⟩
  iapply (Rounds.wp_wait_rest_token 𝒱₀ ER (Rd m) (c : Thread nD τ) none (κ := K (c, q))
      (wpE_waitDma2_eq 𝒱₀ (c : Thread nD τ) none Set.univ) (Set.mem_univ _) () (O := O) (W := W) (R := 0) (m := 0) (T := ∅)
      (by rw [expect_dma, Nat.zero_add]; exact hc)) $$ [Hc HO Hat]
  · isplitr; · iexact HI
    isplitl [Hc]; · rw [hc]; iexact Hc
    isplitl [HO]; · iexact HO
    isplitr; · iapply hO; iexact Hlev
    iexact Hat
  iintro ⟨HO, Hat, -, Hpay⟩
  ihave Hp := (Entails.of_eq (rest_dma m c q)) $$ Hpay
  imod (Rounds.cell_close ER (Rd m) (Set.mem_univ (K (c, q))) (fun h => h) (R := 0 + 1) (duties_later m ((c : Thread nD τ), .dma q))) $$ [Hat] with Hz
  · isplitr; · iexact HI
    iexact Hat
  iapply Hk
  isplitl [HO]; · iexists _; iexact HO
  isplitl [Hz]; · iexact Hz
  iexact Hp

/-- The remote copy of edge `e`. -/
theorem wp_snd (e : Fin 10) {d : Dev nD} (hd : d = peer c e) {src : Memref sig .tc .vmem S512x512 .bf16} (hsrc : srcV c e = src)
    {qs qr : DmaSem sig} (hqs : qs = sndS e) (hqr : qr = rcvS e) (O : CellTallies nD τ sig Unit)
    (X : Vec F S512x512 .bf16) (hX : X = recvX m (peer c e) e)
    {j : Fin 11} (hj : j = slot e)
    {hsc : (rS j : Memref sig (Dev.tc d : Thread nD τ).2.kind .vmem S512x512 .bf16).view.ref.isScScratch = false}
    {h1 : src.view.WordExact} {h2 : (rS j).view.WordExact}
    {hsem : DmaTarget.Typed .vmem (.dma qr) (.remote (Dev.tc d : Thread nD τ) (rS j : Memref sig .tc .vmem S512x512 .bf16) (.dma qs) hsc)}
    {kk : PUnit → Prog (TpuEff nD τ sig (Elt F) Λ₀ .tc) α} :
    iprop(records m K ∗ ow c (O + tallyAt (rcvC (peer c e) e) () N16) ∗ tok c (sndS e) ∗ dutyTok ER (rcvC (peer c e) e) 0 0
        ∗ junk (peer c e) (rS j) ∗ piece c src X)
      ⊢ iprop((ow c O ∗ busy c (sndS e) -∗ wpc c (kk ⟨⟩) Q)
        -∗ wpc c (.op (.enqueueDma src (.remote (Dev.tc d : Thread nD τ) (rS j) (.dma qs) hsc) (.dma qr) h1 h2 hsem) kk) Q) := by
  subst hd; subst hqs; subst hqr; subst hj
  unfold ow tok busy
  iintro ⟨#HR, ⟨%W, HO⟩, ⟨Hts, Hat⟩, Htr, Hd, Hs⟩ Hk
  ihave Hr := (records_dma m K c (sndS e) (sndS_pos e)) $$ HR
  icases Hr with ⟨#HI1, #Hr1⟩
  ihave Hr := (records_dma m K (peer c e) (rcvS e) (rcvS_pos e)) $$ HR
  icases Hr with ⟨#HI2, #Hr2⟩
  unfold junk piece owns
  icases Hd with ⟨%X', %fd, %hfd, Hd⟩
  icases Hs with ⟨%fs, %hfs, Hs⟩
  iapply (Rounds.wp_send_pointsTo 𝒱₀ ER (Rd m) (c : Thread nD τ) none (κ₁ := K (c, sndS e)) (κ₂ := K (peer c e, rcvS e))
      (r₁ := 0) (r₂ := 0) (d₁ := 0) (d₂ := 0) (fs := fs) (fd := fd)
      (by rw [duties_dma]; exact Finset.mem_singleton_self _) (by rw [duties_dma]; exact Finset.mem_singleton_self _)
      () () N16 (by unfold N16; rfl) (by rw [amount_dma, role_snd]; rfl) (by rw [amount_dma, role_rcv]; rfl) O rfl (W := W)
      (by rw [payload_dma, role_snd]
          show _ ⊢ junk c (srcV c e)
          rw [hsrc]; unfold junk owns
          iintro H; iexists X; iexists fs; isplitr
          · ipureintro; exact hfs
          · iexact H)
      (by rw [payload_dma, role_rcv]
          show _ ⊢ piece (peer c e) (rS (slot e)) (recvX m (peer c e) e)
          unfold piece owns
          iintro H; iexists _; isplitr
          swap
          · iexact H
          · ipureintro; rw [View.read_write_univ, hfs, hX])) $$ [HO Hts Htr Hd Hs]
  · isplitr; · iexact HI1
    isplitr; · iexact HI2
    isplitl [Hs]; · iexact Hs
    isplitl [Hd]; · iexact Hd
    isplitl [HO]; · iexact HO
    isplitl [Hts]; · iexact Hts
    isplitr; · iexact Hr1
    isplitl [Htr]; · iexact Htr
    iexact Hr2
  iintro ⟨Hc, HO⟩
  iapply Hk
  isplitl [HO]; · iexists W; iexact HO
  isplitl [Hc]; · rw [role_snd]; iexact Hc
  iexact Hat

/-- The local copy of a piece to row block `k` of the result. -/
theorem wp_cpy (i : Fin 8) (k : Dev nD) {o : Fin 2 → ℕ} (ho : o = ![512 * k.val, 0]) {inb : ∀ a, o a + S512x512.size a ≤ S4096x512.size a}
    {src : Memref sig .tc .vmem S512x512 .f32} (fs : Buf (Elt F) (src.view.loc (c : Thread nD τ)))
    {q : DmaSem sig} (hq : q = outS i)
    (hpay : iprop(piece c (oR k) (src.view.read (Elt F) fs) ∗ (src.view.loc (c : Thread nD τ) ↦[src.view.set]{fullShare} fs)) ⊢ outPay m c i)
    {h1 : src.view.WordExact}
    {h2 : (oM.slice (Rect.unit (s := S4096x512) o S512x512.size inb) (fun _ => rfl)).view.WordExact}
    {hsem : DmaTarget.Typed (nD := nD) .vmem (.dma q) (.here (nD := nD) (τ := τ) (p := Proc.tc) (oM.slice (Rect.unit (s := S4096x512) o S512x512.size inb) (fun _ => rfl)))}
    {kk : PUnit → Prog (TpuEff nD τ sig (Elt F) Λ₀ .tc) α} :
    iprop(records m K ∗ tok c (outS i) ∗ junk c (oR k) ∗ (src.view.loc (c : Thread nD τ) ↦[src.view.set]{fullShare} fs))
      ⊢ iprop((busy c (outS i) -∗ wpc c (kk ⟨⟩) Q)
        -∗ wpc c (.op (.enqueueDma src (.here (nD := nD) (τ := τ) (p := Proc.tc) (oM.slice (Rect.unit (s := S4096x512) o S512x512.size inb) (fun _ => rfl))) (.dma q) h1 h2 hsem) kk) Q) := by
  subst hq; subst ho
  unfold tok busy
  iintro ⟨#HR, ⟨Hts, Hat⟩, Hd, Hs⟩ Hk
  ihave Hr := (records_dma m K c (outS i) (outS_pos i)) $$ HR
  icases Hr with ⟨#HI1, #Hr1⟩
  unfold junk owns
  icases Hd with ⟨%X', %fd, %hfd, Hd⟩
  iapply (Rounds.wp_copy_pointsTo 𝒱₀ ER (Rd m) (c : Thread nD τ) none (κ := K (c, outS i))
      (src := src) (dst := oR k) (r := 0) (d := 0) (fs := fs) (fd := fd)
      (by rw [duties_dma]; exact Finset.mem_singleton_self _)
      () N32 (by unfold N32; rfl) (by rw [amount_dma, role_out]; rfl)
      (by rw [payload_dma, role_out]
          show _ ⊢ outPay m c i
          refine (sep_mono_left ?_).trans hpay
          unfold piece owns
          iintro H; iexists _; isplitr
          swap
          · iexact H
          · ipureintro; rw [View.read_write_univ])) $$ [Hts Hd Hs]
  · isplitr; · iexact HI1
    isplitl [Hs]; · iexact Hs
    isplitl [Hd]; · iexact Hd
    isplitl [Hts]; · iexact Hts
    iexact Hr1
  iintro Hc
  iapply Hk
  isplitl [Hc]; · rw [role_out]; iexact Hc
  iexact Hat

end Talk

end Cert.Exchange

end
-- ==== Proof.Moves.lean ====
/-
The steps of the kernel's body at the edges of the exchange: each takes the pieces it needs and gives back what it leaves.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ)

/-! ## Where the kernel's offsets and partners point -/

theorem off1_eq : ∀ (c : Dev nD) (r : Fin 7), k0_off1 c (BitVec.ofNat 32 (1 + r.val)) = ![0, 512 * (px ⟨r.val + 1, by omega⟩ c).val] := by decide +kernel
theorem off2_eq : ∀ (c : Dev nD) (r : Fin 7), k0_off2 c (BitVec.ofNat 32 (1 + r.val)) = ![0, 512 * (px ⟨r.val + 1, by omega⟩ c).val] := by decide +kernel
theorem off5_eq : ∀ (c : Dev nD) (r : Fin 7), k0_off5 c (BitVec.ofNat 32 (1 + r.val)) = ![512 * (px ⟨r.val + 1, by omega⟩ c).val, 0] := by decide +kernel
theorem dev1_eq : ∀ c : Dev nD, (⟨k0_dev1 c, k0_dev1_lt c⟩ : Dev nD) = px 1 c := by decide +kernel
theorem dev2_eq : ∀ c : Dev nD, (⟨k0_dev2 c, k0_dev2_lt c⟩ : Dev nD) = px 3 c := by decide +kernel
theorem dev3_eq : ∀ c : Dev nD, (⟨k0_dev3 c, k0_dev3_lt c⟩ : Dev nD) = px 4 c := by decide +kernel
theorem dev4_eq : ∀ c : Dev nD, (⟨k0_dev4 c, k0_dev4_lt c⟩ : Dev nD) = px 6 c := by decide +kernel
theorem dev5_eq : ∀ c : Dev nD, (⟨k0_dev5 c, k0_dev5_lt c⟩ : Dev nD) = px 6 c := by decide +kernel
theorem dev6_eq : ∀ c : Dev nD, (⟨k0_dev6 c, k0_dev6_lt c⟩ : Dev nD) = px 1 c := by decide +kernel
theorem dev7_eq : ∀ c : Dev nD, (⟨k0_dev7 c, k0_dev7_lt c⟩ : Dev nD) = px 3 c := by decide +kernel
theorem dev8_eq : ∀ c : Dev nD, (⟨k0_dev8 c, k0_dev8_lt c⟩ : Dev nD) = px 4 c := by decide +kernel
theorem dev9_eq : ∀ c : Dev nD, (⟨k0_dev9 c, k0_dev9_lt c⟩ : Dev nD) = px 1 c := by decide +kernel
theorem dev10_eq : ∀ c : Dev nD, (⟨k0_dev10 c, k0_dev10_lt c⟩ : Dev nD) = px 3 c := by decide +kernel
theorem dev11_eq : ∀ c : Dev nD, (⟨k0_dev11 c, k0_dev11_lt c⟩ : Dev nD) = px 4 c := by decide +kernel
theorem dev12_eq : ∀ c : Dev nD, (⟨k0_dev12 c, k0_dev12_lt c⟩ : Dev nD) = px 3 c := by decide +kernel
theorem dev13_eq : ∀ c : Dev nD, (⟨k0_dev13 c, k0_dev13_lt c⟩ : Dev nD) = px 4 c := by decide +kernel
theorem dev14_eq : ∀ c : Dev nD, (⟨k0_dev14 c, k0_dev14_lt c⟩ : Dev nD) = px 1 c := by decide +kernel

/-- The send cell of edge `e` and the right to pay its receive cell. -/
def sTok (c : Dev nD) (e : Fin 10) : sProp 𝕄 := iprop(tok c (sndS e) ∗ dutyTok ER (rcvC (peer c e) e) 0 0)

/-! ## The content of the result -/

/-- Row block `px k c` of device `c`'s result: its own rows at the mask 0, and the rows the partner across the mask `k`
    narrowed and sent elsewhere. -/
def outX (c : Dev nD) (k : Fin 8) : Vec F S512x512 .f32 := if k = 0 then xb m c c else up (dn (xb m (px k c) c))

theorem eo_sm (j : Fin 7) : sm (eo j) = ⟨j.val + 1, by omega⟩ := by revert j; decide
theorem eo_bm (j : Fin 7) : bm (eo j) = 0 := by revert j; decide
theorem eo_slot (j : Fin 7) : slot (eo j) = ⟨j.val + 1, by omega⟩ := by revert j; decide

theorem outX_succ (c : Dev nD) (j : Fin 7) : up (recvX m c (eo j)) = outX m c ⟨j.val + 1, by omega⟩ := by
  unfold outX recvX
  rw [if_neg (by intro h; exact absurd (congrArg Fin.val h) (Nat.succ_ne_zero _)), eo_sm, eo_bm, px_zero]

theorem outPay_lt (c : Dev nD) (i : Fin 8) (j : Fin 7) (hij : i.val = j.val) :
    outPay m c i = iprop(piece c (oR (px ⟨j.val + 1, by omega⟩ c)) (outX m c ⟨j.val + 1, by omega⟩) ∗ junk c (vS j)) := by
  obtain ⟨i, hi⟩ := i
  obtain ⟨j, hj⟩ := j
  obtain rfl : i = j := hij
  unfold outPay
  rw [dif_pos hj]
  rw [outX_succ m c ⟨i, hj⟩]
theorem outPay_at (c : Dev nD) (i : Fin 8) (j : Fin 7) (k : Fin 8) (hij : i.val = j.val) (hk : k.val = j.val + 1) :
    outPay m c i = iprop(piece c (oR (px k c)) (outX m c k) ∗ junk c (vS j)) := by
  rw [outPay_lt m c i j hij, show k = ⟨j.val + 1, by omega⟩ from Fin.ext hk]
theorem outPay_own (c : Dev nD) : outPay m c 7 = iprop(piece c (oR (px 0 c)) (outX m c 0) ∗ xP m c (px 0 c)) := by
  unfold outPay outX
  rw [dif_neg (by decide), if_pos rfl, px_zero]

omit [FloatOps F] in
/-- A reshaping undone. -/
theorem cast_cast {s s' : Shape} {e : EltTy} (X : s.Idx → Elt F e) (h : s.ShapeCasts s') (h' : s'.ShapeCasts s) :
    shapeCast s (shapeCast s' X h) h' = X := by
  funext x
  show X (Shape.reshapeEquiv _ (Shape.reshapeEquiv _ x)) = X x
  rw [Shape.reshapeEquiv_reshapeEquiv, Shape.reshapeEquiv_self]

/-! ## Credits -/

theorem credS (j : Fin 11) : (rS j).view.dmaCredit = N16 := by unfold N16; rfl
theorem credC (k : Dev nD) : (sC k).view.dmaCredit = N16 := by unfold N16; rfl
theorem credR (k : Dev nD) : (oR k).view.dmaCredit = N32 := by unfold N32; rfl

/-! ## The moves -/

section Moves
variable {α : Type} {Q : α → sProp (MT nD τ sig Unit (Elt F) ℕ UU ℕ)} (c : Dev nD)

/-- One entry signal of the handshake. -/
theorem mv_sig (k : Fin 8) (hk : k ∈ nbs) {d : Dev nD} (hd : d = px k c) {n : ℕ} (hn : n = 1) (l : List (Fin 8))
    {kk : PUnit → Prog (TpuEff nD τ sig (Elt F) Λ₀ .tc) α} :
    records m K ⊢ iprop(ow c (OB c (k :: l)) -∗ dutyTok ER (barC (px k c)) 0 k -∗ lend c k
      -∗ (ow c (OB c l) -∗ wpc c (kk ⟨⟩) Q) -∗ wpc c (.op (.semSignal (d : Thread nD τ) barS n) kk) Q) := by
  iintro #HR HO Ht Hl
  iapply (wp_sig m K c k hk hd hn (OB c l))
  isplitr; · iexact HR
  isplitl [HO]; · iexact HO
  isplitl [Ht] <;> iassumption

/-- A column block narrowed into the send buffer: the load, the unused load, the store. -/
theorem mv_stage (k : Dev nD) {o : Fin 2 → ℕ} (ho : o = ![0, 512 * k.val]) {inb inb' inb'' : ∀ a, o a + S512x512.size a ≤ S512x4096.size a}
    {hl : xM.view.LoadsAt (Rect.unit (s := S512x4096) o S512x512.size inb).toLoadRect}
    {hl' : sM.view.LoadsAt (Rect.unit (s := S512x4096) o S512x512.size inb').toLoadRect}
    {hx : (sM.access (Rect.unit (s := S512x4096) o S512x512.size inb'')).Stores Finset.univ}
    {hm : (Finset.univ : Finset S512x512.Idx) = Finset.univ ∨ ∀ a, (Rect.unit (s := S512x4096) o S512x512.size inb'').stride a = 1}
    {pay : Vec F S512x512 .f32 → Vec F S512x512 .bf16} (hp : pay = dn)
    {kk : PUnit → Prog (TpuEff nD τ sig (Elt F) Λ₀ .tc) α} :
    xP m c k ⊢ iprop(junk c (sC k) -∗ (xP m c k ∗ piece c (sC k) (dn (xb m c k)) -∗ wpc c (kk ⟨⟩) Q)
      -∗ wpc c (.op (.load xM (Rect.unit (s := S512x4096) o S512x512.size inb).toLoadRect hl) fun v =>
          .op (.load sM (Rect.unit (s := S512x4096) o S512x512.size inb').toLoadRect hl') fun _ =>
          .op (.store sM (Rect.unit (s := S512x4096) o S512x512.size inb'') (pay v) Finset.univ hx hm) kk) Q) := by
  subst hp
  iintro Hx Hs Hk
  iapply (wp_ldx m c k ho) $$ Hx
  iintro Hx
  iapply (wp_lds c k ho) $$ Hs
  iintro %w Hs
  iapply (wp_sts c k ho) $$ Hs
  iintro Hs
  iapply Hk
  isplitl [Hx] <;> iassumption

/-- A staged block sent along edge `e`. -/
theorem mv_send (e : Fin 10) (he : e.val < 7) (k : Fin 8) (hk : k = cm e) (j : Fin 11) (hj : j = slot e) (p : Fin 8) (hp : p = dm e)
    {d : Dev nD} (hd : d = px p c) {o : Fin 2 → ℕ} (ho : o = ![0, 512 * (px k c).val])
    {inb : ∀ a, o a + S512x512.size a ≤ S512x4096.size a} (l : List (Fin 10))
    {qs qr : DmaSem sig} (hqs : qs = sndS e) (hqr : qr = rcvS e)
    {hsc : (rS j : Memref sig (Dev.tc d : Thread nD τ).2.kind .vmem S512x512 .bf16).view.ref.isScScratch = false}
    {h1 : (sM.slice (Rect.unit (s := S512x4096) o S512x512.size inb) (fun _ => rfl)).view.WordExact} {h2 : (rS j).view.WordExact}
    {hsem : DmaTarget.Typed .vmem (.dma qr) (.remote (Dev.tc d : Thread nD τ) (rS j : Memref sig .tc .vmem S512x512 .bf16) (.dma qs) hsc)}
    {kk : PUnit → Prog (TpuEff nD τ sig (Elt F) Λ₀ .tc) α} :
    records m K ⊢ iprop(ow c (OT c (e :: l)) -∗ sTok c e -∗ junk (px p c) (rS j) -∗ piece c (sC (px k c)) (dn (xb m c (px k c)))
      -∗ (ow c (OT c l) ∗ busy c (sndS e) -∗ wpc c (kk ⟨⟩) Q)
      -∗ wpc c (.op (.enqueueDma (sM.slice (Rect.unit (s := S512x4096) o S512x512.size inb) (fun _ => rfl))
          (.remote (Dev.tc d : Thread nD τ) (rS j) (.dma qs) hsc) (.dma qr) h1 h2 hsem) kk) Q) := by
  subst hk; subst hp; subst ho
  unfold sTok
  iintro #HR HO ⟨Ht, Hd⟩ Hj Hs
  iapply (wp_snd m K c e hd (src := sC (px (cm e) c)) (by unfold srcV; rw [if_pos he]) hqs hqr (OT c l)
    (dn (xb m c (px (cm e) c))) (recvX_own m c e he).symm hj)
  isplitr; · iexact HR
  isplitl [HO]; · iexact HO
  isplitl [Ht]; · iexact Ht
  isplitl [Hd]; · iexact Hd
  isplitl [Hj] <;> iassumption

/-- A received block passed on along edge `e`. -/
theorem mv_pass (e : Fin 10) (he : 7 ≤ e.val) (f : Fin 10) (hf : f = fw e) (i : Fin 11) (hi : i = slot (fw e)) (j : Fin 11) (hj : j = slot e) (p : Fin 8) (hp : p = dm e)
    {d : Dev nD} (hd : d = px p c) (l : List (Fin 10))
    {qs qr : DmaSem sig} (hqs : qs = sndS e) (hqr : qr = rcvS e)
    {hsc : (rS j : Memref sig (Dev.tc d : Thread nD τ).2.kind .vmem S512x512 .bf16).view.ref.isScScratch = false}
    {h1 : (rS i).view.WordExact} {h2 : (rS j).view.WordExact}
    {hsem : DmaTarget.Typed .vmem (.dma qr) (.remote (Dev.tc d : Thread nD τ) (rS j : Memref sig .tc .vmem S512x512 .bf16) (.dma qs) hsc)}
    {kk : PUnit → Prog (TpuEff nD τ sig (Elt F) Λ₀ .tc) α} :
    records m K ⊢ iprop(ow c (OT c (e :: l)) -∗ sTok c e -∗ junk (px p c) (rS j) -∗ piece c (rS i) (recvX m c f)
      -∗ (ow c (OT c l) ∗ busy c (sndS e) -∗ wpc c (kk ⟨⟩) Q)
      -∗ wpc c (.op (.enqueueDma (rS i) (.remote (Dev.tc d : Thread nD τ) (rS j) (.dma qs) hsc) (.dma qr) h1 h2 hsem) kk) Q) := by
  subst hp; subst hi; subst hf
  unfold sTok
  iintro #HR HO ⟨Ht, Hd⟩ Hj Hs
  iapply (wp_snd m K c e hd (src := rS (slot (fw e))) (by unfold srcV; rw [if_neg (by omega)]) hqs hqr (OT c l)
    (recvX m c (fw e)) (recvX_fwd m c e he).symm hj)
  isplitr; · iexact HR
  isplitl [HO]; · iexact HO
  isplitl [Ht]; · iexact Ht
  isplitl [Hd]; · iexact Hd
  isplitl [Hj] <;> iassumption

theorem mayWait_nil (p : DmaSem sig) : (levAts L lv : sProp 𝕄) ⊢ MayWait (c : Thread nD τ) (.dma p) () (OT c []) := by
  show _ ⊢ MayWait (c : Thread nD τ) (.dma p) () 0
  rw [MayWait_zero]; iintro -; iempintro

/-- The wait for the block of edge `e`. -/
theorem mv_recv (e : Fin 10) (j : Fin 11) (hj : j = slot e) (l : List (Fin 10))
    (hO : (levAts L lv : sProp 𝕄) ⊢ MayWait (c : Thread nD τ) (.dma (rcvS e)) () (OT c l))
    {q : DmaSem sig} (hq : q = rcvS e) {sp : Space} {s : Shape} {ty : EltTy} {src : Memref sig .tc sp s ty}
    {hs : src.view.WordExact} {hd : (rS j).view.WordExact}
    {kk : PUnit → Prog (TpuEff nD τ sig (Elt F) Λ₀ .tc) α} :
    records m K ⊢ iprop(levAts L lv -∗ ow c (OT c l) -∗ busy c (rcvS e)
      -∗ (ow c (OT c l) ∗ done c (rcvS e) ∗ piece c (rS j) (recvX m c e) -∗ wpc c (kk ⟨⟩) Q)
      -∗ wpc c (.op (.waitDma2 q src (rS j) hs hd) kk) Q) := by
  subst hj
  have hc : (rS (slot e)).view.dmaCredit = roleAmt (role (rcvS e)) := by rw [role_rcv]; exact credS _
  have h := wp_wt m K c (α := α) (Q := Q) (rcvS e) hq (rcvS_pos e) (OT c l) hO (src := src) (dst := rS (slot e)) (hs := hs) (hd := hd) hc (kk := kk)
  rw [role_rcv] at h
  iintro #HR #Hlev HO Hb
  iapply h
  isplitr; · iexact HR
  isplitr; · iexact Hlev
  isplitl [HO] <;> iassumption

/-- The wait for edge `e` to have left: the piece it left from is free again. -/
theorem mv_sent (e : Fin 10) {src' : Memref sig .tc .vmem S512x512 .bf16} (hsrc : srcV c e = src')
    {q : DmaSem sig} (hq : q = sndS e) {sp sp' : Space} {s s' : Shape} {ty ty' : EltTy} {src : Memref sig .tc sp s ty} {dst : Memref sig .tc sp' s' ty'}
    {hs : src.view.WordExact} {hd : dst.view.WordExact} (hc : dst.view.dmaCredit = N16)
    {kk : PUnit → Prog (TpuEff nD τ sig (Elt F) Λ₀ .tc) α} :
    records m K ⊢ iprop(levAts L lv -∗ ow c (OT c []) -∗ busy c (sndS e)
      -∗ (ow c (OT c []) ∗ done c (sndS e) ∗ junk c src' -∗ wpc c (kk ⟨⟩) Q)
      -∗ wpc c (.op (.waitDma2 q src dst hs hd) kk) Q) := by
  subst hsrc
  have hc : dst.view.dmaCredit = roleAmt (role (sndS e)) := by rw [role_snd]; exact hc
  have h := wp_wt m K c (α := α) (Q := Q) (sndS e) hq (sndS_pos e) (OT c []) (mayWait_nil c _) (src := src) (dst := dst) (hs := hs) (hd := hd) hc (kk := kk)
  rw [role_snd] at h
  iintro #HR #Hlev HO Hb
  iapply h
  isplitr; · iexact HR
  isplitr; · iexact Hlev
  isplitl [HO] <;> iassumption

/-- The wait for a staged block to have left. -/
theorem mv_sentC (e : Fin 10) (he : e.val < 7) (k : Fin 8) (hk : k = cm e) {o : Fin 2 → ℕ} (ho : o = ![0, 512 * (px k c).val])
    {inb : ∀ a, o a + S512x512.size a ≤ S512x4096.size a}
    {q : DmaSem sig} (hq : q = sndS e) {sp : Space} {s : Shape} {ty : EltTy} {src : Memref sig .tc sp s ty}
    {hs : src.view.WordExact} {hd : (sM.slice (Rect.unit (s := S512x4096) o S512x512.size inb) (fun _ => rfl)).view.WordExact}
    {kk : PUnit → Prog (TpuEff nD τ sig (Elt F) Λ₀ .tc) α} :
    records m K ⊢ iprop(levAts L lv -∗ ow c (OT c []) -∗ busy c (sndS e)
      -∗ (ow c (OT c []) ∗ done c (sndS e) ∗ junk c (sC (px k c)) -∗ wpc c (kk ⟨⟩) Q)
      -∗ wpc c (.op (.waitDma2 q src (sM.slice (Rect.unit (s := S512x4096) o S512x512.size inb) (fun _ => rfl)) hs hd) kk) Q) := by
  subst hk; subst ho
  exact mv_sent m K c e (src' := sC (px (cm e) c)) (by unfold srcV; rw [if_pos he]) hq (dst := sC (px (cm e) c)) (credC _)

/-- The wait for a block passed on to have left. -/
theorem mv_sentS (e : Fin 10) (he : 7 ≤ e.val) (i : Fin 11) (hi : i = slot (fw e))
    {q : DmaSem sig} (hq : q = sndS e) {sp : Space} {s : Shape} {ty : EltTy} {src : Memref sig .tc sp s ty}
    {hs : src.view.WordExact} {hd : (rS i).view.WordExact}
    {kk : PUnit → Prog (TpuEff nD τ sig (Elt F) Λ₀ .tc) α} :
    records m K ⊢ iprop(levAts L lv -∗ ow c (OT c []) -∗ busy c (sndS e)
      -∗ (ow c (OT c []) ∗ done c (sndS e) ∗ junk c (rS i) -∗ wpc c (kk ⟨⟩) Q)
      -∗ wpc c (.op (.waitDma2 q src (rS i) hs hd) kk) Q) := by
  subst hi
  exact mv_sent m K c e (src' := rS (slot (fw e))) (by unfold srcV; rw [if_neg (by omega)]) hq (dst := rS (slot (fw e))) (credS _)

/-- The wait for an output copy. -/
theorem mv_outd (i : Fin 8) (k : Dev nD) {o : Fin 2 → ℕ} (ho : o = ![512 * k.val, 0]) {inb : ∀ a, o a + S512x512.size a ≤ S4096x512.size a}
    {q : DmaSem sig} (hq : q = outS i) {sp : Space} {s : Shape} {ty : EltTy} {src : Memref sig .tc sp s ty}
    {hs : src.view.WordExact} {hd : (oM.slice (Rect.unit (s := S4096x512) o S512x512.size inb) (fun _ => rfl)).view.WordExact}
    {P : sProp (MT nD τ sig Unit (Elt F) ℕ UU ℕ)} (hP : outPay m c i = P)
    {kk : PUnit → Prog (TpuEff nD τ sig (Elt F) Λ₀ .tc) α} :
    records m K ⊢ iprop(levAts L lv -∗ ow c (OT c []) -∗ busy c (outS i)
      -∗ (ow c (OT c []) ∗ done c (outS i) ∗ P -∗ wpc c (kk ⟨⟩) Q)
      -∗ wpc c (.op (.waitDma2 q src (oM.slice (Rect.unit (s := S4096x512) o S512x512.size inb) (fun _ => rfl)) hs hd) kk) Q) := by
  subst hP; subst ho
  have hc : (oR k).view.dmaCredit = roleAmt (role (outS i)) := by rw [role_out]; exact credR k
  have h := wp_wt m K c (α := α) (Q := Q) (outS i) hq (outS_pos i) (OT c []) (mayWait_nil c _) (src := src) (dst := oR k) (hs := hs) (hd := hd) hc (kk := kk)
  rw [role_out] at h
  iintro #HR #Hlev HO Hb
  iapply h
  isplitr; · iexact HR
  isplitr; · iexact Hlev
  isplitl [HO] <;> iassumption

/-- A received block widened into its slot of the widened buffer. -/
theorem mv_widen (j : Fin 7) (i : Fin 11) (hi : i.val = j.val + 1)
    {hl : rM.view.LoadsAt (Rect.unit (s := S11x512x512) ![i.val, 0, 0] S1x512x512.size (inbS i)).toLoadRect}
    {hl' : vM.view.LoadsAt (Rect.unit (s := S7x512x512) ![j.val, 0, 0] S1x512x512.size (inbV j)).toLoadRect}
    {hx : (vM.access (Rect.unit (s := S7x512x512) ![j.val, 0, 0] S1x512x512.size (inbV j))).Stores Finset.univ}
    {hm : (Finset.univ : Finset S1x512x512.Idx) = Finset.univ ∨ ∀ a, (Rect.unit (s := S7x512x512) ![j.val, 0, 0] S1x512x512.size (inbV j)).stride a = 1}
    {pay : Vec F S1x512x512 .bf16 → Vec F S1x512x512 .f32} (hp : pay = k0_pay8) (Y : Vec F S512x512 .bf16)
    {kk : PUnit → Prog (TpuEff nD τ sig (Elt F) Λ₀ .tc) α} :
    piece c (rS i) Y ⊢ iprop(junk c (vS j) -∗ (junk c (rS i) ∗ piece c (vS j) (up Y) -∗ wpc c (kk ⟨⟩) Q)
      -∗ wpc c (.op (.load rM (Rect.unit (s := S11x512x512) ![i.val, 0, 0] S1x512x512.size (inbS i)).toLoadRect hl) fun v =>
          .op (.load vM (Rect.unit (s := S7x512x512) ![j.val, 0, 0] S1x512x512.size (inbV j)).toLoadRect hl') fun _ =>
          .op (.store vM (Rect.unit (s := S7x512x512) ![j.val, 0, 0] S1x512x512.size (inbV j)) (pay v) Finset.univ hx hm) kk) Q) := by
  subst hp
  iintro Hr Hv Hk
  iapply (wp_ldr c i Y) $$ Hr
  iintro Hr
  iapply (wp_ldv c j) $$ Hv
  iintro %w Hv
  iapply (wp_stv c j (up Y) (by unfold k0_pay8 up; dsimp only; rw [cast_cast])) $$ Hv
  iintro Hv
  iapply Hk
  isplitl [Hr]
  · unfold junk; iexists Y; iexact Hr
  · iexact Hv

/-- The copy of a widened block to its rows of the result. -/
theorem mv_copy (i : Fin 8) (j : Fin 7) (hij : i.val = j.val) (k : Fin 8) (hk : k = ⟨j.val + 1, by omega⟩) (e : Fin 10) (he : e = eo j)
    {o : Fin 2 → ℕ} (ho : o = ![512 * (px k c).val, 0]) {inb : ∀ a, o a + S512x512.size a ≤ S4096x512.size a}
    {q : DmaSem sig} (hq : q = outS i)
    {h1 : (vS j).view.WordExact}
    {h2 : (oM.slice (Rect.unit (s := S4096x512) o S512x512.size inb) (fun _ => rfl)).view.WordExact}
    {hsem : DmaTarget.Typed (nD := nD) .vmem (.dma q) (.here (nD := nD) (τ := τ) (p := Proc.tc) (oM.slice (Rect.unit (s := S4096x512) o S512x512.size inb) (fun _ => rfl)))}
    {kk : PUnit → Prog (TpuEff nD τ sig (Elt F) Λ₀ .tc) α} :
    records m K ⊢ iprop(tok c (outS i) -∗ junk c (oR (px k c)) -∗ piece c (vS j) (up (recvX m c e))
      -∗ (busy c (outS i) -∗ wpc c (kk ⟨⟩) Q)
      -∗ wpc c (.op (.enqueueDma (vS j) (.here (nD := nD) (τ := τ) (p := Proc.tc) (oM.slice (Rect.unit (s := S4096x512) o S512x512.size inb) (fun _ => rfl))) (.dma q) h1 h2 hsem) kk) Q) := by
  subst hk; subst he
  iintro #HR Ht Ho Hv
  ihave Hv' := (show piece c (vS j) (up (recvX m c (eo j))) ⊢ iprop(∃ f : Buf (Elt F) ((vS j).view.loc (c : Thread nD τ)), ⌜(vS j).view.read (Elt F) f = up (recvX m c (eo j))⌝ ∗ ((vS j).view.loc (c : Thread nD τ) ↦[(vS j).view.set]{fullShare} f)) from Entails.refl _) $$ Hv
  icases Hv' with ⟨%f, %hf, Hv⟩
  iapply (wp_cpy m K c i (px ⟨j.val + 1, by omega⟩ c) ho f hq
    (by rw [hf, outPay_lt m c i j hij, outX_succ]
        refine BIClass.sep_mono (Entails.refl _) ?_
        unfold junk owns
        iintro H; iexists _; iexists f; isplitr
        swap
        · iexact H
        · ipureintro; exact hf))
  isplitr; · iexact HR
  isplitl [Ht]; · iexact Ht
  isplitl [Ho] <;> iassumption

/-- The copy of the device's own block of `x` to its rows of the result. -/
theorem mv_own {o o' : Fin 2 → ℕ} (ho : o = ![512 * c.val, 0]) (ho' : o' = ![0, 512 * c.val])
    {inb : ∀ a, o a + S512x512.size a ≤ S4096x512.size a} {inb' : ∀ a, o' a + S512x512.size a ≤ S512x4096.size a}
    {q : DmaSem sig} (hq : q = outS 7)
    {h1 : (xM.slice (Rect.unit (s := S512x4096) o' S512x512.size inb') (fun _ => rfl)).view.WordExact}
    {h2 : (oM.slice (Rect.unit (s := S4096x512) o S512x512.size inb) (fun _ => rfl)).view.WordExact}
    {hsem : DmaTarget.Typed (nD := nD) .vmem (.dma q) (.here (nD := nD) (τ := τ) (p := Proc.tc) (oM.slice (Rect.unit (s := S4096x512) o S512x512.size inb) (fun _ => rfl)))}
    {kk : PUnit → Prog (TpuEff nD τ sig (Elt F) Λ₀ .tc) α} :
    records m K ⊢ iprop(tok c (outS 7) -∗ junk c (oR (px 0 c)) -∗ xP m c (px 0 c)
      -∗ (busy c (outS 7) -∗ wpc c (kk ⟨⟩) Q)
      -∗ wpc c (.op (.enqueueDma (xM.slice (Rect.unit (s := S512x4096) o' S512x512.size inb') (fun _ => rfl))
          (.here (nD := nD) (τ := τ) (p := Proc.tc) (oM.slice (Rect.unit (s := S4096x512) o S512x512.size inb) (fun _ => rfl))) (.dma q) h1 h2 hsem) kk) Q) := by
  subst ho'
  rw [px_zero]
  iintro #HR Ht Ho Hx
  iapply (wp_cpy m K c 7 c ho (src := xC c) (xstg m c) hq
    (by rw [outPay_own, px_zero]; unfold outX xP xb; rw [if_pos rfl]))
  isplitr; · iexact HR
  isplitl [Ht]; · iexact Ht
  isplitl [Ho]; · iexact Ho
  unfold xP; iexact Hx

end Moves

end Cert.Exchange

end
-- ==== Proof.Body.lean ====
/-
The kernel's body on one device, run from the pieces it starts with to the pieces it leaves.
-/
module

public import proofs.«01_k».proof.Proof.Moves

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 29 → ℕ)

/-! ## Families written out -/

section Families
variable {M : Type} [URA M]
theorem fam7 (Φ : Fin 7 → sProp M) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
theorem fam8 (Φ : Fin 8 → sProp M) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
theorem fam10 (Φ : Fin 10 → sProp M) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]; rfl
theorem fam11 (Φ : Fin 11 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [0, 1, 2, 3, 4, 5, 6, 7, 8, 9, 10] (by decide) (by decide)]; rfl
end Families

theorem lend1 (p : Dev nD) : lend (F := F) p 1 = iprop(junk p (rS 1) ∗ junk p (rS 8) ∗ junk p (rS 5)) := if_pos rfl
theorem lend3 (p : Dev nD) : lend (F := F) p 3 = iprop(junk p (rS 3) ∗ junk p (rS 9) ∗ junk p (rS 2)) := by
  unfold lend; rw [if_neg (by decide), if_pos rfl]
theorem lend4 (p : Dev nD) : lend (F := F) p 4 = iprop(junk p (rS 4) ∗ junk p (rS 10) ∗ junk p (rS 7)) := by
  unfold lend; rw [if_neg (by decide), if_neg (by decide), if_pos rfl]
theorem lend6 (p : Dev nD) : lend (F := F) p 6 = junk p (rS 6) := by
  unfold lend; rw [if_neg (by decide), if_neg (by decide), if_neg (by decide)]

/-! ## Before and after -/

/-- The rights device `c` starts with: what it owes, its barrier cell, the signals it pays, its transfer cells. -/
def rights (c : Dev nD) : sProp 𝕄 :=
  iprop(cred (tallyAt (barC c) () 4) ∗ atPos ER (barC c) 0 ∅ 0
    ∗ (dutyTok ER (barC (px 1 c)) 0 1 ∗ dutyTok ER (barC (px 3 c)) 0 3 ∗ dutyTok ER (barC (px 4 c)) 0 4 ∗ dutyTok ER (barC (px 6 c)) 0 6)
    ∗ (bigSep Finset.univ fun e : Fin 10 => sTok c e) ∗ (bigSep Finset.univ fun e : Fin 10 => busy c (rcvS e))
    ∗ bigSep Finset.univ fun k : Fin 8 => tok c (outS k))

/-- The cells device `c` leaves, all closed. -/
def closed (c : Dev nD) : sProp 𝕄 :=
  iprop(semVal (barC c) 0 ∗ (bigSep Finset.univ fun e : Fin 10 => done c (sndS e)) ∗ (bigSep Finset.univ fun e : Fin 10 => done c (rcvS e))
    ∗ bigSep Finset.univ fun k : Fin 8 => done c (outS k))

/-- The buffers' pieces, but the result's: the staged `x`, and the scratch at any contents. -/
def pieces (c : Dev nD) : sProp 𝕄 :=
  iprop((bigSep Finset.univ fun k : Fin 8 => xP m c (px k c)) ∗ (bigSep Finset.univ fun k : Fin 8 => junk c (sC (px k c)))
    ∗ (bigSep Finset.univ fun j : Fin 11 => junk c (rS j)) ∗ bigSep Finset.univ fun j : Fin 7 => junk c (vS j))

def outs₀ (c : Dev nD) : sProp 𝕄 := bigSep Finset.univ fun k : Fin 8 => junk c (oR (px k c))
def outs₁ (c : Dev nD) : sProp 𝕄 := bigSep Finset.univ fun k : Fin 8 => piece c (oR (px k c)) (outX m c k)

set_option maxHeartbeats 4000000 in
/-- The body, step by step. -/
theorem sound_body (c : Dev nD) (Kt : PUnit → sProp 𝕄) :
    iprop(records m K ∗ levAts L lv ∗ ow c (O₀ c) ∗ rights c ∗ pieces m c ∗ outs₀ c
        ∗ ((ow c 0 ∗ closed c ∗ pieces m c ∗ outs₁ m c) -∗ Kt ⟨⟩))
      ⊢ wpc c (cc0_body xM (Memref.isWhole_whole _) oM (Memref.isWhole_whole _) sM (Memref.isWhole_whole _) rM (Memref.isWhole_whole _)
          vM (Memref.isWhole_whole _) cc0_scratch3 cc0_scratch4 cc0_scratch5) Kt := by
  rw [cc0_body_eq_skeleton]; unfold cc0_body_skel
  unfold rights pieces outs₀ O₀
  rw [fam10 (fun e => sTok c e), fam10 (fun e => busy c (rcvS e)), fam8 (fun k => tok c (outS k)), fam8 (fun k => xP m c (px k c)),
    fam8 (fun k => junk c (sC (px k c))), fam11, fam7, fam8 (fun k => junk c (oR (px k c)))]
  iintro ⟨#HR, #Hlev, HO, ⟨Hcb, Hab, ⟨Hd1, Hd3, Hd4, Hd6⟩, ⟨S0, S1, S2, S3, S4, S5, S6, S7, S8, S9⟩, ⟨R0, R1, R2, R3, R4, R5, R6, R7, R8, R9⟩,
      ⟨T0, T1, T2, T3, T4, T5, T6, T7⟩⟩,
    ⟨⟨X0, X1, X2, X3, X4, X5, X6, X7⟩, ⟨C0, C1, C2, C3, C4, C5, C6, C7⟩, ⟨J0, J1, J2, J3, J4, J5, J6, J7, J8, J9, J10⟩, ⟨V0, V1, V2, V3, V4, V5, V6⟩⟩,
    ⟨O0, O1, O2, O3, O4, O5, O6, O7⟩, Hk⟩
  -- the handshake, and the block across the mask 6 staged
  rw [k0_part1_eq_skeleton]; unfold k0_part1_skel
  simp only [semSignalWord, semWaitWord, Prog.lift, Prog.bind_op, Prog.bind_ret, Prog.pure_eq_ret, wp_deviceId]
  iapply (mv_sig m K c 1 (by decide) (dev1_eq c) (by decide) [3, 4, 6]) $$ HR HO Hd1 [J1 J8 J5]
  · rw [lend1]; isplitl [J1]; · iexact J1
    isplitl [J8] <;> iassumption
  iintro HO
  iapply (mv_sig m K c 3 (by decide) (dev2_eq c) (by decide) [4, 6]) $$ HR HO Hd3 [J3 J9 J2]
  · rw [lend3]; isplitl [J3]; · iexact J3
    isplitl [J9] <;> iassumption
  iintro HO
  iapply (mv_sig m K c 4 (by decide) (dev3_eq c) (by decide) [6]) $$ HR HO Hd4 [J4 J10 J7]
  · rw [lend4]; isplitl [J4]; · iexact J4
    isplitl [J10] <;> iassumption
  iintro HO
  iapply (mv_sig m K c 6 (by decide) (dev4_eq c) (by decide) []) $$ HR HO Hd6 [J6]
  · rw [lend6]; iexact J6
  iintro HO
  iapply (wp_bar m K c (by decide)) $$ [HO Hcb Hab]
  · isplitr; · iexact HR
    isplitr; · iexact Hlev
    isplitl [HO]; · iexact HO
    isplitl [Hcb] <;> iassumption
  rw [lend1, lend3, lend4, lend6]
  iintro ⟨HO, Hzb, ⟨L1, L8, L5⟩, ⟨L3, L9, L2⟩, ⟨L4, L10, L7⟩, L6⟩
  unfold order
  iapply (mv_stage m c (px 6 c) (off1_eq c 5) (pay := k0_pay1) rfl) $$ X6 C6; iintro ⟨X6, C6⟩
  -- blocks staged and sent
  rw [k0_part2_eq_skeleton]; unfold k0_part2_skel
  simp only [Prog.lift, Prog.bind_op, Prog.bind_ret, Prog.pure_eq_ret]
  iapply (mv_send m K c 3 (by decide) 6 rfl 6 rfl 6 rfl (dev5_eq c) (off2_eq c 5) [4, 5, 6, 0, 1, 2, 7, 8, 9] rfl rfl) $$ HR HO S3 L6 C6; iintro ⟨HO, S3⟩
  iapply (mv_stage m c (px 2 c) (off1_eq c 1) (pay := k0_pay2) rfl) $$ X2 C2; iintro ⟨X2, C2⟩
  iapply (mv_send m K c 4 (by decide) 2 rfl 8 rfl 1 rfl (dev6_eq c) (off2_eq c 1) [5, 6, 0, 1, 2, 7, 8, 9] rfl rfl) $$ HR HO S4 L8 C2; iintro ⟨HO, S4⟩
  rw [k0_part3_eq_skeleton]; unfold k0_part3_skel
  simp only [Prog.lift, Prog.bind_op, Prog.bind_ret, Prog.pure_eq_ret]
  iapply (mv_stage m c (px 7 c) (off1_eq c 6) (pay := k0_pay3) rfl) $$ X7 C7; iintro ⟨X7, C7⟩
  iapply (mv_send m K c 5 (by decide) 7 rfl 9 rfl 3 rfl (dev7_eq c) (off2_eq c 6) [6, 0, 1, 2, 7, 8, 9] rfl rfl) $$ HR HO S5 L9 C7; iintro ⟨HO, S5⟩
  iapply (mv_stage m c (px 5 c) (off1_eq c 4) (pay := k0_pay4) rfl) $$ X5 C5; iintro ⟨X5, C5⟩
  rw [k0_part4_eq_skeleton]; unfold k0_part4_skel
  simp only [Prog.lift, Prog.bind_op, Prog.bind_ret, Prog.pure_eq_ret]
  iapply (mv_send m K c 6 (by decide) 5 rfl 10 rfl 4 rfl (dev8_eq c) (off2_eq c 4) [0, 1, 2, 7, 8, 9] rfl rfl) $$ HR HO S6 L10 C5; iintro ⟨HO, S6⟩
  iapply (mv_stage m c (px 1 c) (off1_eq c 0) (pay := k0_pay5) rfl) $$ X1 C1; iintro ⟨X1, C1⟩
  iapply (mv_send m K c 0 (by decide) 1 rfl 1 rfl 1 rfl (dev9_eq c) (off2_eq c 0) [1, 2, 7, 8, 9] rfl rfl) $$ HR HO S0 L1 C1; iintro ⟨HO, S0⟩
  rw [k0_part5_eq_skeleton]; unfold k0_part5_skel
  simp only [Prog.lift, Prog.bind_op, Prog.bind_ret, Prog.pure_eq_ret]
  iapply (mv_stage m c (px 3 c) (off1_eq c 2) (pay := k0_pay6) rfl) $$ X3 C3; iintro ⟨X3, C3⟩
  iapply (mv_send m K c 1 (by decide) 3 rfl 3 rfl 3 rfl (dev10_eq c) (off2_eq c 2) [2, 7, 8, 9] rfl rfl) $$ HR HO S1 L3 C3; iintro ⟨HO, S1⟩
  iapply (mv_stage m c (px 4 c) (off1_eq c 3) (pay := k0_pay7) rfl) $$ X4 C4; iintro ⟨X4, C4⟩
  -- the last block sent, the device's own rows copied, and the three blocks for others passed on
  rw [k0_part6_eq_skeleton]; unfold k0_part6_skel
  simp only [Prog.lift, Prog.bind_op, Prog.bind_ret, Prog.pure_eq_ret]
  iapply (mv_send m K c 2 (by decide) 4 rfl 4 rfl 4 rfl (dev11_eq c) (off2_eq c 3) [7, 8, 9] rfl rfl) $$ HR HO S2 L4 C4; iintro ⟨HO, S2⟩
  iapply (mv_own m K c (k0_off3_eq c) (k0_off4_eq c) rfl) $$ HR T7 O0 X0; iintro T7
  iapply (mv_recv m K c 4 8 rfl [7, 8, 9] (mayWait_rcv c 4 (by decide) [7, 8, 9] (by decide)) rfl) $$ HR Hlev HO R4; iintro ⟨HO, R4, J8⟩
  rw [k0_part7_eq_skeleton]; unfold k0_part7_skel
  simp only [Prog.lift, Prog.bind_op, Prog.bind_ret, Prog.pure_eq_ret]
  iapply (mv_pass m K c 7 (by decide) 4 rfl 8 rfl 2 rfl 3 rfl (dev12_eq c) [8, 9] rfl rfl) $$ HR HO S7 L2 J8; iintro ⟨HO, S7⟩
  iapply (mv_recv m K c 5 9 rfl [8, 9] (mayWait_rcv c 5 (by decide) [8, 9] (by decide)) rfl) $$ HR Hlev HO R5; iintro ⟨HO, R5, J9⟩
  iapply (mv_pass m K c 8 (by decide) 5 rfl 9 rfl 7 rfl 4 rfl (dev13_eq c) [9] rfl rfl) $$ HR HO S8 L7 J9; iintro ⟨HO, S8⟩
  rw [k0_part8_eq_skeleton]; unfold k0_part8_skel
  simp only [Prog.lift, Prog.bind_op, Prog.bind_ret, Prog.pure_eq_ret]
  iapply (mv_recv m K c 6 10 rfl [9] (mayWait_rcv c 6 (by decide) [9] (by decide)) rfl) $$ HR Hlev HO R6; iintro ⟨HO, R6, J10⟩
  iapply (mv_pass m K c 9 (by decide) 6 rfl 10 rfl 5 rfl 1 rfl (dev14_eq c) [] rfl rfl) $$ HR HO S9 L5 J10; iintro ⟨HO, S9⟩
  iapply (mv_recv m K c 0 1 rfl [] (mayWait_nil c _) rfl) $$ HR Hlev HO R0; iintro ⟨HO, R0, J1⟩
  -- the seven blocks received, widened and copied out
  rw [k0_part9_eq_skeleton]; unfold k0_part9_skel
  rw [k0_part10_eq_skeleton]; unfold k0_part10_skel
  simp only [Prog.lift, Prog.bind_op, Prog.bind_ret, Prog.pure_eq_ret]
  iapply (mv_widen c 0 1 (by decide) (pay := k0_pay8) rfl (recvX m c 0)) $$ J1 V0; iintro ⟨J1, V0⟩
  iapply (mv_copy m K c 0 0 (by decide) 1 rfl 0 rfl (off5_eq c 0) rfl) $$ HR T0 O1 V0; iintro T0
  iapply (mv_recv m K c 1 3 rfl [] (mayWait_nil c _) rfl) $$ HR Hlev HO R1; iintro ⟨HO, R1, J3⟩
  iapply (mv_widen c 2 3 (by decide) (pay := fun v => k0_pay10 (k0_pay9 v)) rfl (recvX m c 1)) $$ J3 V2; iintro ⟨J3, V2⟩
  iapply (mv_copy m K c 2 2 (by decide) 3 rfl 1 rfl (off5_eq c 2) rfl) $$ HR T2 O3 V2; iintro T2
  iapply (mv_recv m K c 2 4 rfl [] (mayWait_nil c _) rfl) $$ HR Hlev HO R2; iintro ⟨HO, R2, J4⟩
  iapply (mv_widen c 3 4 (by decide) (pay := k0_pay11) rfl (recvX m c 2)) $$ J4 V3; iintro ⟨J4, V3⟩
  rw [k0_part11_eq_skeleton]; unfold k0_part11_skel
  simp only [Prog.lift, Prog.bind_op, Prog.bind_ret, Prog.pure_eq_ret]
  iapply (mv_copy m K c 3 3 (by decide) 4 rfl 2 rfl (off5_eq c 3) rfl) $$ HR T3 O4 V3; iintro T3
  iapply (mv_recv m K c 3 6 rfl [] (mayWait_nil c _) rfl) $$ HR Hlev HO R3; iintro ⟨HO, R3, J6⟩
  iapply (mv_widen c 5 6 (by decide) (pay := k0_pay12) rfl (recvX m c 3)) $$ J6 V5; iintro ⟨J6, V5⟩
  iapply (mv_copy m K c 5 5 (by decide) 6 rfl 3 rfl (off5_eq c 5) rfl) $$ HR T5 O6 V5; iintro T5
  rw [k0_part12_eq_skeleton]; unfold k0_part12_skel
  simp only [Prog.lift, Prog.bind_op, Prog.bind_ret, Prog.pure_eq_ret]
  iapply (mv_recv m K c 7 2 rfl [] (mayWait_nil c _) rfl) $$ HR Hlev HO R7; iintro ⟨HO, R7, J2⟩
  iapply (mv_widen c 1 2 (by decide) (pay := k0_pay13) rfl (recvX m c 7)) $$ J2 V1; iintro ⟨J2, V1⟩
  iapply (mv_copy m K c 1 1 (by decide) 2 rfl 7 rfl (off5_eq c 1) rfl) $$ HR T1 O2 V1; iintro T1
  rw [k0_part13_eq_skeleton]; unfold k0_part13_skel
  rw [k0_part14_eq_skeleton]; unfold k0_part14_skel
  simp only [Prog.lift, Prog.bind_op, Prog.bind_ret, Prog.pure_eq_ret]
  iapply (mv_recv m K c 8 7 rfl [] (mayWait_nil c _) rfl) $$ HR Hlev HO R8; iintro ⟨HO, R8, J7⟩
  iapply (mv_widen c 6 7 (by decide) (pay := k0_pay14) rfl (recvX m c 8)) $$ J7 V6; iintro ⟨J7, V6⟩
  iapply (mv_copy m K c 6 6 (by decide) 7 rfl 8 rfl (off5_eq c 6) rfl) $$ HR T6 O7 V6; iintro T6
  iapply (mv_recv m K c 9 5 rfl [] (mayWait_nil c _) rfl) $$ HR Hlev HO R9; iintro ⟨HO, R9, J5⟩
  iapply (mv_widen c 4 5 (by decide) (pay := k0_pay15) rfl (recvX m c 9)) $$ J5 V4; iintro ⟨J5, V4⟩
  iapply (mv_copy m K c 4 4 (by decide) 5 rfl 9 rfl (off5_eq c 4) rfl) $$ HR T4 O5 V4; iintro T4
  -- the waits for the blocks sent, then for the copies out
  iapply (mv_sentC m K c 0 (by decide) 1 rfl (off2_eq c 0) rfl) $$ HR Hlev HO S0; iintro ⟨HO, S0, C1⟩
  iapply (mv_sentC m K c 1 (by decide) 3 rfl (off2_eq c 2) rfl) $$ HR Hlev HO S1; iintro ⟨HO, S1, C3⟩
  rw [k0_part15_eq_skeleton]; unfold k0_part15_skel
  simp only [Prog.lift, Prog.bind_op, Prog.bind_ret, Prog.pure_eq_ret]
  iapply (mv_sentC m K c 2 (by decide) 4 rfl (off2_eq c 3) rfl) $$ HR Hlev HO S2; iintro ⟨HO, S2, C4⟩
  iapply (mv_sentC m K c 3 (by decide) 6 rfl (off2_eq c 5) rfl) $$ HR Hlev HO S3; iintro ⟨HO, S3, C6⟩
  iapply (mv_sentC m K c 4 (by decide) 2 rfl (off2_eq c 1) rfl) $$ HR Hlev HO S4; iintro ⟨HO, S4, C2⟩
  iapply (mv_sentC m K c 5 (by decide) 7 rfl (off2_eq c 6) rfl) $$ HR Hlev HO S5; iintro ⟨HO, S5, C7⟩
  iapply (mv_sentC m K c 6 (by decide) 5 rfl (off2_eq c 4) rfl) $$ HR Hlev HO S6; iintro ⟨HO, S6, C5⟩
  rw [k0_part16_eq_skeleton]; unfold k0_part16_skel
  simp only [Prog.lift, Prog.bind_op, Prog.bind_ret, Prog.pure_eq_ret]
  iapply (mv_sentS m K c 7 (by decide) 8 rfl rfl) $$ HR Hlev HO S7; iintro ⟨HO, S7, J8⟩
  iapply (mv_sentS m K c 8 (by decide) 9 rfl rfl) $$ HR Hlev HO S8; iintro ⟨HO, S8, J9⟩
  iapply (mv_sentS m K c 9 (by decide) 10 rfl rfl) $$ HR Hlev HO S9; iintro ⟨HO, S9, J10⟩
  iapply (mv_outd m K c 0 (px 1 c) (off5_eq c 0) rfl (outPay_at m c 0 0 1 rfl rfl)) $$ HR Hlev HO T0; iintro ⟨HO, T0, O1, V0⟩
  rw [k0_part17_eq_skeleton]; unfold k0_part17_skel
  simp only [Prog.lift, Prog.bind_op, Prog.bind_ret, Prog.pure_eq_ret]
  iapply (mv_outd m K c 2 (px 3 c) (off5_eq c 2) rfl (outPay_at m c 2 2 3 rfl rfl)) $$ HR Hlev HO T2; iintro ⟨HO, T2, O3, V2⟩
  iapply (mv_outd m K c 3 (px 4 c) (off5_eq c 3) rfl (outPay_at m c 3 3 4 rfl rfl)) $$ HR Hlev HO T3; iintro ⟨HO, T3, O4, V3⟩
  iapply (mv_outd m K c 5 (px 6 c) (off5_eq c 5) rfl (outPay_at m c 5 5 6 rfl rfl)) $$ HR Hlev HO T5; iintro ⟨HO, T5, O6, V5⟩
  iapply (mv_outd m K c 1 (px 2 c) (off5_eq c 1) rfl (outPay_at m c 1 1 2 rfl rfl)) $$ HR Hlev HO T1; iintro ⟨HO, T1, O2, V1⟩
  iapply (mv_outd m K c 6 (px 7 c) (off5_eq c 6) rfl (outPay_at m c 6 6 7 rfl rfl)) $$ HR Hlev HO T6; iintro ⟨HO, T6, O7, V6⟩
  iapply (mv_outd m K c 4 (px 5 c) (off5_eq c 4) rfl (outPay_at m c 4 4 5 rfl rfl)) $$ HR Hlev HO T4; iintro ⟨HO, T4, O5, V4⟩
  iapply (mv_outd m K c 7 c (k0_off3_eq c) rfl (outPay_own m c)) $$ HR Hlev HO T7; iintro ⟨HO, T7, O0, X0⟩
  unfold wpc; rw [wp_ret]; imodintro
  iapply Hk
  unfold closed outs₁
  rw [fam10 (fun e => done c (sndS e)), fam10 (fun e => done c (rcvS e)), fam8 (fun k => done c (outS k)), fam8 (fun k => piece c (oR (px k c)) (outX m c k))]
  isplitl [HO]; · iexact HO
  isplitl [Hzb S0 S1 S2 S3 S4 S5 S6 S7 S8 S9 R0 R1 R2 R3 R4 R5 R6 R7 R8 R9 T0 T1 T2 T3 T4 T5 T6 T7]
  · isplitl [Hzb]; · iexact Hzb
    isplitl [S0 S1 S2 S3 S4 S5 S6 S7 S8 S9]; · (isplitl [S0]; (iexact S0); isplitl [S1]; (iexact S1); isplitl [S2]; (iexact S2); isplitl [S3]; (iexact S3); isplitl [S4]; (iexact S4); isplitl [S5]; (iexact S5); isplitl [S6]; (iexact S6); isplitl [S7]; (iexact S7); isplitl [S8]; (iexact S8); iexact S9)
    isplitl [R0 R1 R2 R3 R4 R5 R6 R7 R8 R9]; · (isplitl [R0]; (iexact R0); isplitl [R1]; (iexact R1); isplitl [R2]; (iexact R2); isplitl [R3]; (iexact R3); isplitl [R4]; (iexact R4); isplitl [R5]; (iexact R5); isplitl [R6]; (iexact R6); isplitl [R7]; (iexact R7); isplitl [R8]; (iexact R8); iexact R9)
    (isplitl [T0]; (iexact T0); isplitl [T1]; (iexact T1); isplitl [T2]; (iexact T2); isplitl [T3]; (iexact T3); isplitl [T4]; (iexact T4); isplitl [T5]; (iexact T5); isplitl [T6]; (iexact T6); iexact T7)
  isplitl [X0 X1 X2 X3 X4 X5 X6 X7 C0 C1 C2 C3 C4 C5 C6 C7 J0 J1 J2 J3 J4 J5 J6 J7 J8 J9 J10 V0 V1 V2 V3 V4 V5 V6]
  · isplitl [X0 X1 X2 X3 X4 X5 X6 X7]; · (isplitl [X0]; (iexact X0); isplitl [X1]; (iexact X1); isplitl [X2]; (iexact X2); isplitl [X3]; (iexact X3); isplitl [X4]; (iexact X4); isplitl [X5]; (iexact X5); isplitl [X6]; (iexact X6); iexact X7)
    isplitl [C0 C1 C2 C3 C4 C5 C6 C7]; · (isplitl [C0]; (iexact C0); isplitl [C1]; (iexact C1); isplitl [C2]; (iexact C2); isplitl [C3]; (iexact C3); isplitl [C4]; (iexact C4); isplitl [C5]; (iexact C5); isplitl [C6]; (iexact C6); iexact C7)
    isplitl [J0 J1 J2 J3 J4 J5 J6 J7 J8 J9 J10]; · (isplitl [J0]; (iexact J0); isplitl [J1]; (iexact J1); isplitl [J2]; (iexact J2); isplitl [J3]; (iexact J3); isplitl [J4]; (iexact J4); isplitl [J5]; (iexact J5); isplitl [J6]; (iexact J6); isplitl [J7]; (iexact J7); isplitl [J8]; (iexact J8); isplitl [J9]; (iexact J9); iexact J10)
    (isplitl [V0]; (iexact V0); isplitl [V1]; (iexact V1); isplitl [V2]; (iexact V2); isplitl [V3]; (iexact V3); isplitl [V4]; (iexact V4); isplitl [V5]; (iexact V5); iexact V6)
  (isplitl [O0]; (iexact O0); isplitl [O1]; (iexact O1); isplitl [O2]; (iexact O2); isplitl [O3]; (iexact O3); isplitl [O4]; (iexact O4); isplitl [O5]; (iexact O5); isplitl [O6]; (iexact O6); iexact O7)

end Cert.Exchange

end
-- ==== Proof.Geometry.lean ====
/-
The buffers cut into the pieces the exchange moves, and put together again.
-/
module

public import proofs.«01_k».proof.Proof.Body
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The partners of device `c`, all eight devices in another order. -/
def pxR : Fin 8 ≃ Dev nD := ⟨fun k => px k c, fun d => px d c, by revert c; decide, by revert c; decide⟩

/-! ## Which elements -/

theorem xC_set (k : Dev nD) : (xC k).view.set = (Rect.unit (s := S512x4096) ![0, 512 * k.val] S512x512.size (inbC k)).set := View.set_slice_whole _ _
theorem sC_set (k : Dev nD) : (sC k).view.set = (Rect.unit (s := S512x4096) ![0, 512 * k.val] S512x512.size (inbC k)).set := View.set_slice_whole _ _
theorem oR_set (k : Dev nD) : (oR k).view.set = (Rect.unit (s := S4096x512) ![512 * k.val, 0] S512x512.size (inbR k)).set := View.set_slice_whole _ _
theorem rS_set (j : Fin 11) : (rS j).view.set = (Rect.unit (s := S11x512x512) ![j.val, 0, 0] S1x512x512.size (inbS j)).set := by
  simp only [rS, Memref.view_squeeze, View.set_reshape]; exact View.set_slice_whole _ _
theorem vS_set (j : Fin 7) : (vS j).view.set = (Rect.unit (s := S7x512x512) ![j.val, 0, 0] S1x512x512.size (inbV j)).set := by
  simp only [vS, Memref.view_squeeze, View.set_reshape]; exact View.set_slice_whole _ _

theorem col_disj (k k' : Fin 8) (h : k ≠ k') : Disjoint (Rect.unit (s := S512x4096) ![0, 512 * k.val] S512x512.size (inbC k)).set
    (Rect.unit (s := S512x4096) ![0, 512 * k'.val] S512x512.size (inbC k')).set :=
  Ring.lead_disjoint (s := S512x4096) (1 : Fin 2) 512 (fun k : Fin 8 => (![0, 512 * k.val] : Fin 2 → ℕ)) S512x512.size inbC (fun _ => rfl) rfl k k' h
theorem col_cover : Finset.univ.biUnion (fun k : Fin 8 => (Rect.unit (s := S512x4096) ![0, 512 * k.val] S512x512.size (inbC k)).set) = Finset.univ :=
  Ring.lead_cover (s := S512x4096) (1 : Fin 2) 512 (fun k : Fin 8 => (![0, 512 * k.val] : Fin 2 → ℕ)) S512x512.size inbC (fun _ => rfl)
    (fun k a ha => by fin_cases a <;> first | exact absurd rfl ha | rfl) rfl (fun a ha => by fin_cases a <;> first | exact absurd rfl ha | rfl) rfl
theorem row_disj (k k' : Fin 8) (h : k ≠ k') : Disjoint (Rect.unit (s := S4096x512) ![512 * k.val, 0] S512x512.size (inbR k)).set
    (Rect.unit (s := S4096x512) ![512 * k'.val, 0] S512x512.size (inbR k')).set :=
  Ring.lead_disjoint (s := S4096x512) (0 : Fin 2) 512 (fun k : Fin 8 => (![512 * k.val, 0] : Fin 2 → ℕ)) S512x512.size inbR (fun _ => rfl) rfl k k' h
theorem row_cover : Finset.univ.biUnion (fun k : Fin 8 => (Rect.unit (s := S4096x512) ![512 * k.val, 0] S512x512.size (inbR k)).set) = Finset.univ :=
  Ring.lead_cover (s := S4096x512) (0 : Fin 2) 512 (fun k : Fin 8 => (![512 * k.val, 0] : Fin 2 → ℕ)) S512x512.size inbR (fun _ => rfl)
    (fun k a ha => by fin_cases a <;> first | exact absurd rfl ha | rfl) rfl (fun a ha => by fin_cases a <;> first | exact absurd rfl ha | rfl) rfl
theorem slot_disj (j j' : Fin 11) (h : j ≠ j') : Disjoint (Rect.unit (s := S11x512x512) ![j.val, 0, 0] S1x512x512.size (inbS j)).set
    (Rect.unit (s := S11x512x512) ![j'.val, 0, 0] S1x512x512.size (inbS j')).set :=
  Ring.lead_disjoint (s := S11x512x512) (0 : Fin 3) 1 (fun j : Fin 11 => (![j.val, 0, 0] : Fin 3 → ℕ)) S1x512x512.size inbS (fun j => by simp) rfl j j' h
theorem slot_cover : Finset.univ.biUnion (fun j : Fin 11 => (Rect.unit (s := S11x512x512) ![j.val, 0, 0] S1x512x512.size (inbS j)).set) = Finset.univ :=
  Ring.lead_cover (s := S11x512x512) (0 : Fin 3) 1 (fun j : Fin 11 => (![j.val, 0, 0] : Fin 3 → ℕ)) S1x512x512.size inbS (fun j => by simp)
    (fun k a ha => by fin_cases a <;> first | exact absurd rfl ha | rfl) rfl (fun a ha => by fin_cases a <;> first | exact absurd rfl ha | rfl) rfl
theorem wide_disj (j j' : Fin 7) (h : j ≠ j') : Disjoint (Rect.unit (s := S7x512x512) ![j.val, 0, 0] S1x512x512.size (inbV j)).set
    (Rect.unit (s := S7x512x512) ![j'.val, 0, 0] S1x512x512.size (inbV j')).set :=
  Ring.lead_disjoint (s := S7x512x512) (0 : Fin 3) 1 (fun j : Fin 7 => (![j.val, 0, 0] : Fin 3 → ℕ)) S1x512x512.size inbV (fun j => by simp) rfl j j' h
theorem wide_cover : Finset.univ.biUnion (fun j : Fin 7 => (Rect.unit (s := S7x512x512) ![j.val, 0, 0] S1x512x512.size (inbV j)).set) = Finset.univ :=
  Ring.lead_cover (s := S7x512x512) (0 : Fin 3) 1 (fun j : Fin 7 => (![j.val, 0, 0] : Fin 3 → ℕ)) S1x512x512.size inbV (fun j => by simp)
    (fun k a ha => by fin_cases a <;> first | exact absurd rfl ha | rfl) rfl (fun a ha => by fin_cases a <;> first | exact absurd rfl ha | rfl) rfl

/-! ## Cutting and joining -/

omit [FloatOps F] in
/-- A piece at some contents is its elements at some contents of the buffer. -/
theorem junk_eq {sp : Space} {s : Shape} {e : EltTy} (M : Memref sig .tc sp s e) :
    (junk c M : sProp 𝕄) = iprop(∃ f, M.view.loc (c : Thread nD τ) ↦[M.view.set]{fullShare} f) := by
  unfold junk owns
  refine BI.equiv_iff.mp ⟨show iprop(∃ X f, ⌜View.read (Elt F) M.view f = X⌝ ∗ (M.view.loc (c : Thread nD τ) ↦[M.view.set]{fullShare} f)) ⊢
    (iprop(∃ f, M.view.loc (c : Thread nD τ) ↦[M.view.set]{fullShare} f) : sProp 𝕄) from ?_,
    show iprop(∃ f, M.view.loc (c : Thread nD τ) ↦[M.view.set]{fullShare} f) ⊢
      (iprop(∃ X f, ⌜View.read (Elt F) M.view f = X⌝ ∗ (M.view.loc (c : Thread nD τ) ↦[M.view.set]{fullShare} f)) : sProp 𝕄) from ?_⟩
  · iintro ⟨%X, %f, %hf, H⟩; iexists f; iexact H
  · iintro ⟨%f, H⟩; iexists M.view.read (Elt F) f; iexists f; isplitr
    · ipureintro; rfl
    · iexact H

section Cut
variable {ℓ : Loc nD τ sig} {B : Type} [Fintype B] [DecidableEq B] (I : B → Finset (Idx ℓ))
  (hd : ∀ b b', b ≠ b' → Disjoint (I b) (I b')) (hc : Finset.univ.biUnion I = Finset.univ)
  (Φ : B → sProp (MT nD τ sig Unit (Elt F) ℕ UU ℕ)) (hΦ : ∀ b, Φ b = iprop(∃ f, ℓ ↦[I b]{fullShare} f))

omit [FloatOps F] in
include hd hc hΦ in
/-- A buffer at some contents is cut into disjoint pieces at some contents each, -/
theorem cut : iprop(∃ f : Buf (Elt F) ℓ, ℓ ↦{fullShare} f) ⊢ bigSep Finset.univ Φ := by
  rw [show Φ = fun b => iprop(∃ f, ℓ ↦[I b]{fullShare} f) from funext hΦ]
  iintro ⟨%f, H⟩
  iapply ((Entails.of_eq (Ring.pointsTo_blocks I hd hc f)).trans (bigSep_mono fun b _ =>
    show (ℓ ↦[I b]{fullShare} f : sProp 𝕄) ⊢ iprop(∃ f, ℓ ↦[I b]{fullShare} f) from by iintro H; iexists f; iexact H))
  iexact H
omit [FloatOps F] in
include hd hc hΦ in
/-- and joined from them. -/
theorem join [∀ e, Nonempty (Elt F e)] : bigSep Finset.univ Φ ⊢ iprop(∃ f : Buf (Elt F) ℓ, ℓ ↦{fullShare} f) := by
  rw [show Φ = fun b => iprop(∃ f, ℓ ↦[I b]{fullShare} f) from funext hΦ]
  exact Ring.pointsTo_blocks_join_exists I hd hc fun _ => Classical.choice inferInstance
end Cut

/-! ## The five buffers -/

abbrev xL : Loc nD τ sig := (c : Thread nD τ).loc cc0_stg0_0
abbrev sL : Loc nD τ sig := (c : Thread nD τ).loc cc0_scratch0
abbrev rL : Loc nD τ sig := (c : Thread nD τ).loc cc0_scratch1
abbrev vL : Loc nD τ sig := (c : Thread nD τ).loc cc0_scratch2
abbrev oL : Loc nD τ sig := (c : Thread nD τ).loc main_v1

/-- The elements of each piece, in its buffer. -/
abbrev xE (k : Fin 8) : Finset S512x4096.Idx := (xC k).view.set
abbrev sE (k : Fin 8) : Finset S512x4096.Idx := (sC k).view.set
abbrev oE (k : Fin 8) : Finset S4096x512.Idx := (oR k).view.set
abbrev rE (j : Fin 11) : Finset S11x512x512.Idx := (rS j).view.set
abbrev vE (j : Fin 7) : Finset S7x512x512.Idx := (vS j).view.set

section Sets
omit [FloatOps F]
theorem xC_disj (k k' : Fin 8) (h : k ≠ k') : Disjoint (xC k).view.set (xC k').view.set := by rw [xC_set, xC_set]; exact col_disj k k' h
theorem xC_cover : Finset.univ.biUnion xE = Finset.univ := by
  rw [show xE = _ from funext xC_set]; exact col_cover
theorem sC_disj (k k' : Fin 8) (h : k ≠ k') : Disjoint (sC k).view.set (sC k').view.set := by rw [sC_set, sC_set]; exact col_disj k k' h
theorem sC_cover : Finset.univ.biUnion sE = Finset.univ := by
  rw [show sE = _ from funext sC_set]; exact col_cover
theorem oR_disj (k k' : Fin 8) (h : k ≠ k') : Disjoint (oR k).view.set (oR k').view.set := by rw [oR_set, oR_set]; exact row_disj k k' h
theorem oR_cover : Finset.univ.biUnion oE = Finset.univ := by
  rw [show oE = _ from funext oR_set]; exact row_cover
theorem rS_disj (j j' : Fin 11) (h : j ≠ j') : Disjoint (rS j).view.set (rS j').view.set := by rw [rS_set, rS_set]; exact slot_disj j j' h
theorem rS_cover : Finset.univ.biUnion rE = Finset.univ := by
  rw [show rE = _ from funext rS_set]; exact slot_cover
theorem vS_disj (j j' : Fin 7) (h : j ≠ j') : Disjoint (vS j).view.set (vS j').view.set := by rw [vS_set, vS_set]; exact wide_disj j j' h
theorem vS_cover : Finset.univ.biUnion vE = Finset.univ := by
  rw [show vE = _ from funext vS_set]; exact wide_cover
end Sets

/-- The staged `x` is its eight column blocks. -/
theorem x_blocks : (xL c ↦{fullShare} xstg m c : sProp 𝕄) = bigSep Finset.univ fun k : Fin 8 => xP m c (px k c) := by
  rw [Ring.pointsTo_blocks (ℓ := xL c) xE xC_disj xC_cover (xstg m c), bigSep_univ_equiv (pxR c)]
  rfl

/-- The buffers but the staged `x` and the result, whole at some contents. -/
def scratch : sProp 𝕄 :=
  iprop((∃ f : Buf (Elt F) (sL c), sL c ↦{fullShare} f) ∗ (∃ f : Buf (Elt F) (rL c), rL c ↦{fullShare} f) ∗ (∃ f : Buf (Elt F) (vL c), vL c ↦{fullShare} f))

theorem sC_order : (bigSep Finset.univ fun k : Fin 8 => (junk c (sC (px k c)) : sProp 𝕄)) = bigSep Finset.univ fun k : Fin 8 => junk c (sC k) :=
  (bigSep_univ_equiv (pxR c) fun k : Fin 8 => (junk c (sC k) : sProp 𝕄)).symm

/-- What the body starts from, cut from the whole buffers, -/
theorem pieces_intro : iprop((xL c ↦{fullShare} xstg m c) ∗ scratch c) ⊢ pieces m c := by
  unfold scratch pieces
  rw [x_blocks, sC_order]
  exact BI.sep_mono (BI.Entails.refl _) (BI.sep_mono (cut (ℓ := sL c) sE sC_disj sC_cover _ fun k => junk_eq c (sC k))
    (BI.sep_mono (cut (ℓ := rL c) rE rS_disj rS_cover _ fun j => junk_eq c (rS j)) (cut (ℓ := vL c) vE vS_disj vS_cover _ fun j => junk_eq c (vS j))))
/-- and joined again. -/
theorem pieces_elim : pieces m c ⊢ iprop((xL c ↦{fullShare} xstg m c) ∗ scratch c) := by
  unfold scratch pieces
  rw [x_blocks, sC_order]
  exact BI.sep_mono (BI.Entails.refl _) (BI.sep_mono (join (ℓ := sL c) sE sC_disj sC_cover _ fun k => junk_eq c (sC k))
    (BI.sep_mono (join (ℓ := rL c) rE rS_disj rS_cover _ fun j => junk_eq c (rS j)) (join (ℓ := vL c) vE vS_disj vS_cover _ fun j => junk_eq c (vS j))))

theorem outs_intro : iprop(∃ f : Buf (Elt F) (oL c), oL c ↦{fullShare} f) ⊢ (outs₀ c : sProp 𝕄) := by
  unfold outs₀
  rw [show (bigSep Finset.univ fun k : Fin 8 => (junk c (oR (px k c)) : sProp 𝕄)) = bigSep Finset.univ fun k : Fin 8 => junk c (oR k) from
    (bigSep_univ_equiv (pxR c) fun k : Fin 8 => (junk c (oR k) : sProp 𝕄)).symm]
  exact cut (ℓ := oL c) oE oR_disj oR_cover _ fun k => junk_eq c (oR k)

/-- The result holds device `c`'s blocks: the rows of each partner are what that partner had for `c`. -/
def Holds (g : Buf (Elt F) (oL c)) : Prop := ∀ k : Fin 8, (oR (px k c)).view.read (Elt F) g = outX m c k

omit [FloatOps F] in
theorem rows_cover : Finset.univ.biUnion (fun k : Fin 8 => oE (px k c)) = Finset.univ := by
  rw [← oR_cover]; ext i; simp only [Finset.mem_biUnion, Finset.mem_univ, true_and]
  exact ⟨fun ⟨k, h⟩ => ⟨px k c, h⟩, fun ⟨k, h⟩ => ⟨px k c, by rw [show px (px k c) c = k from (pxR c).right_inv k]; exact h⟩⟩

/-- The written rows, joined to the whole result. -/
theorem outs_elim : outs₁ m c ⊢ iprop(∃ g : Buf (Elt F) (oL c), ⌜Holds m c g⌝ ∗ oL c ↦{fullShare} g) := by
  unfold outs₁ piece owns
  have hn : Nonempty (Buf (Elt F) (oL c)) := ⟨fun _ => Classical.choice inferInstance⟩
  refine (BI.bigSep_exists_pi Finset.univ fun (k : Fin 8) (f : Buf (Elt F) (oL c)) =>
    (iprop(⌜(oR (px k c)).view.read (Elt F) f = outX m c k⌝ ∗ (oL c ↦[(oR (px k c)).view.set]{fullShare} f)) : sProp 𝕄)).trans ?_
  iintro ⟨%fs, H⟩
  ihave H' := (BI.bigSep_pure_sep Finset.univ (fun k : Fin 8 => (oR (px k c)).view.read (Elt F) (fs k) = outX m c k)
    fun k => (oL c ↦[(oR (px k c)).view.set]{fullShare} fs k : sProp 𝕄)) $$ H
  icases H' with ⟨%hf, H⟩
  ihave H2 := (pointsTo_biUnion_join Finset.univ (fun k : Fin 8 => oE (px k c)) fs hn.some
    (fun k _ k' _ h => oR_disj (px k c) (px k' c) fun e => h ((pxR c).injective e))) $$ H
  icases H2 with ⟨%g, %hg, H⟩
  iexists g
  isplitr
  · ipureintro
    intro k
    rw [← hf k (Finset.mem_univ _)]
    exact View.read_congr fun i hi => hg k (Finset.mem_univ _) i hi
  · ihave H := (Entails.of_eq (congrArg (fun S : Finset S4096x512.Idx => (oL c ↦[S]{fullShare} g : sProp 𝕄)) (rows_cover c))) $$ H
    iexact H

end Cert.Exchange

end
-- ==== Proof.Funding.lean ====
/-
The ghost state the launch deals: every cell's round, the right to each payment at the device that makes it, and the
credit each device may wait against.
-/
module

public import proofs.«01_k».proof.Proof.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's cells, by family -/

/-- The transfer cells' families: output copies, sends, receives. -/
abbrev Fam : Type := Fin 8 ⊕ (Fin 10 ⊕ Fin 10)

/-- The transfer semaphores, by family. -/
abbrev fsem : Fam → DmaSem sig
  | .inl k => outS k
  | .inr (.inl e) => sndS e
  | .inr (.inr e) => rcvS e

/-- The kernel's own semaphores. -/
abbrev osem (x : Fam) : SemLoc sig := .dma (fsem x)

theorem ownSemFacts : Pipeline.OwnSemFacts cfg0.spec osem := by decide

/-- Position 0 for the barrier, then the families one after the other. -/
def posE : Fin 1 ⊕ Fam ≃ Fin 29 :=
  (Equiv.sumCongr (Equiv.refl _) ((Equiv.sumCongr (Equiv.refl _) finSumFinEquiv).trans finSumFinEquiv)).trans finSumFinEquiv

theorem posE_bar (i : Fin 1) : posE (.inl i) = 0 := by
  obtain rfl : i = 0 := Subsingleton.elim _ _
  rfl
theorem posE_fam : ∀ x : Fam, posE (.inr x) = fsem x := by decide

/-- A family of facts about a device's 29 cells is one about its barrier cell and one about each family of transfer cells. -/
theorem cells_fam {M : Type} [URA M] (c : Dev nD) (Φ : GSem nD τ sig → sProp M) :
    (bigSep Finset.univ fun i : Fin 29 => Φ (kcell (c, i)))
      = iprop(Φ (barC c) ∗ (bigSep Finset.univ fun k : Fin 8 => Φ (outC c k)) ∗ (bigSep Finset.univ fun e : Fin 10 => Φ (sndC c e))
          ∗ bigSep Finset.univ fun e : Fin 10 => Φ (rcvC c e)) := by
  have hf (x : Fam) : kcell (c, posE (.inr x)) = ((c : Thread nD τ), .dma (fsem x)) := by
    have h0 : (fsem x).val ≠ 0 := by
      rcases x with k | e | e
      · exact (outS_pos k).ne'
      · exact (sndS_pos e).ne'
      · exact (rcvS_pos e).ne'
    rw [posE_fam]; unfold kcell csem; rw [if_neg (by exact h0)]
  rw [bigSep_univ_equiv posE, bigSep_univ_sum, bigSep_univ_sum, bigSep_univ_sum, BI.bigSep_univ_of_subsingleton (i := (0 : Fin 1))]
  rw [bigSep_congr (s := Finset.univ) fun (k : Fin 8) _ => congrArg Φ (hf (.inl k)),
    bigSep_congr (s := Finset.univ) fun (e : Fin 10) _ => congrArg Φ (hf (.inr (.inl e))),
    bigSep_congr (s := Finset.univ) fun (e : Fin 10) _ => congrArg Φ (hf (.inr (.inr e)))]
  rfl

theorem kcell_injective : Function.Injective (kcell : Dev nD × Fin 29 → GSem nD τ sig) := by
  rintro ⟨c, i⟩ ⟨c', i'⟩ h
  have h1 : c = c' := congrArg (fun g : GSem nD τ sig => g.1.1) h
  subst h1
  have h2 : csem i = csem i' := congrArg Prod.snd h
  have h3 : ∀ i i' : Fin 29, csem i = csem i' → i = i' := by decide
  rw [h3 i i' h2]
def kcells : Finset (GSem nD τ sig) := Finset.univ.map ⟨kcell, kcell_injective⟩

/-! ## The rights to pay, each at the device that pays -/

/-- What device `c` pays: a unit of the barrier of its partner across a mask, or its part in a transfer. -/
def tokOf (x : Dev nD × (Fin 8 ⊕ Fam)) : GSem nD τ sig × ℕ × Fin 8 := match x.2 with
  | .inl k => (barC (px k x.1), 0, k)
  | .inr (.inl k) => (outC x.1 k, 0, 0)
  | .inr (.inr (.inl e)) => (sndC x.1 e, 0, 0)
  | .inr (.inr (.inr e)) => (rcvC (peer x.1 e) e, 0, 0)
/-- Who pays a duty, read off it. -/
def payer (t : GSem nD τ sig × ℕ × Fin 8) : Dev nD × (Fin 8 ⊕ Fam) := match t.1.2 with
  | .reg _ => (px t.2.2 t.1.1.1, .inl t.2.2)
  | .dma q => match role q with
    | .none => (0, .inl 0)
    | .out k => (t.1.1.1, .inr (.inl k))
    | .snd e => (t.1.1.1, .inr (.inr (.inl e)))
    | .rcv e => (px (dm e) t.1.1.1, .inr (.inr (.inr e)))
theorem payer_tokOf : Function.LeftInverse payer tokOf := by
  rintro ⟨c, k | k | e | e⟩
  · show (px k (px k c), Sum.inl k) = _; rw [px_px]
  · unfold payer tokOf; simp only [role_out]
  · unfold payer tokOf; simp only [role_snd]
  · unfold payer tokOf; simp only [role_rcv]; rw [px_px]
def ktoks : Finset (GSem nD τ sig × ℕ × Fin 8) := Finset.univ.map ⟨tokOf, payer_tokOf.injective⟩

/-- The rights to pay that device `c` holds. -/
def payToks (c : Dev nD) : sProp 𝕄 :=
  iprop((bigSep Finset.univ fun k : Fin 8 => dutyTok ER (barC (px k c)) 0 k) ∗ (bigSep Finset.univ fun k : Fin 8 => dutyTok ER (outC c k) 0 0)
    ∗ (bigSep Finset.univ fun e : Fin 10 => dutyTok ER (sndC c e) 0 0) ∗ bigSep Finset.univ fun e : Fin 10 => dutyTok ER (rcvC (peer c e) e) 0 0)

def u₀ : UU := (initOf (Pipeline.cells cfgs cellOf_inj) (Pipeline.launchToks cfgs cellOf_inj), initOf kcells ktoks)

/-- What the launch element deals device `c`. -/
def G (c : Dev nD) : sProp 𝕄 :=
  iprop((bigSep Finset.univ fun i : Fin 29 => roundState ER (Rd m) (kcell (c, i)) 0)
    ∗ (bigSep Finset.univ fun i : Fin 29 => atPos ER (kcell (c, i)) 0 ∅ 0) ∗ (bigSep Finset.univ fun i : Fin 29 => reached ER (kcell (c, i)) 0) ∗ payToks c)

theorem fund_cells : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun i : Fin 29 => Φ (kcell (c, i)) := by
    unfold kcells; rw [bigSep_map, bigSep_univ_prod]; rfl
  have hT : bigSep ktoks (fun x => (dutyTok ER x.1 x.2.1 x.2.2 : sProp 𝕄)) = bigSep Finset.univ fun c : Dev nD => payToks c := by
    unfold ktoks; rw [bigSep_map, bigSep_univ_prod]
    exact bigSep_congr fun c _ => by unfold payToks; rw [bigSep_univ_sum, bigSep_univ_sum, bigSep_univ_sum]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The cells' invariants, made for every device at once -/

theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => done c (outS k)) ∗ (bigSep Finset.univ fun e : Fin 10 => done c (sndS e))
        ∗ bigSep Finset.univ fun e : Fin 10 => done c (rcvS e)) := by
  unfold Pipeline.ownSems0; rw [bigSep_univ_sum, bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 29 => semVal (kcell (c, i)) 0 : sProp 𝕄) := by
  rw [ownSems0_eq, unscopedSems0_eq, cells_fam c fun g => semVal g 0]
  unfold done
  iintro ⟨⟨HO, HS, HV⟩, HB⟩
  isplitl [HB]; · iexact HB
  isplitl [HO]; · iexact HO
  isplitl [HS] <;> iassumption

/-- What stays with device `c`: its places at its cells, and its rights to pay. -/
def linear (c : Dev nD) : sProp 𝕄 :=
  iprop((bigSep Finset.univ fun i : Fin 29 => atPos ER (kcell (c, i)) 0 ∅ 0) ∗ payToks c)
def G' (c : Dev nD) : sProp 𝕄 := iprop(∃ K, records m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 29 => iprop(∃ κ : ℕ, cellInv ER (Rd m) κ (kcell (c, i))))
          ∗ (bigSep Finset.univ fun i : Fin 29 => reached ER (kcell (c, i)) 0) ∗ linear c) := by
  unfold G linear
  iintro ⟨Hos, Hus, Hst, Hat, Hr, Htok⟩
  ihave Hv := (sems0_eq (F := F) c) $$ [Hos Hus]
  · isplitl [Hos] <;> iassumption
  imod (show iprop((bigSep Finset.univ fun i : Fin 29 => semVal (kcell (c, i)) 0) ∗ bigSep Finset.univ fun i : Fin 29 => roundState ER (Rd m) (kcell (c, i)) 0)
      ⊢ (|={Set.univ}=> bigSep Finset.univ fun i : Fin 29 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem regroup : (bigSep Finset.univ fun c : Dev nD => iprop((bigSep Finset.univ fun i : Fin 29 => iprop(∃ κ : ℕ, cellInv ER (Rd m) κ (kcell (c, i))))
          ∗ (bigSep Finset.univ fun i : Fin 29 => reached ER (kcell (c, i)) 0) ∗ linear c) : sProp 𝕄) ⊢ bigSep Finset.univ (G' m) := by
  rw [bigSep_sep', bigSep_sep', ← bigSep_univ_prod (fun ci : Dev nD × Fin 29 => iprop(∃ κ : ℕ, cellInv ER (Rd m) κ (kcell ci))),
    ← bigSep_univ_prod (fun ci : Dev nD × Fin 29 => (reached ER (kcell ci) 0 : sProp 𝕄))]
  iintro ⟨HI, #HR, Hl⟩
  ihave HK := (BI.bigSep_exists_pi Finset.univ (fun (ci : Dev nD × Fin 29) (κ : ℕ) => (cellInv ER (Rd m) κ (kcell ci) : sProp 𝕄))) $$ HI
  icases HK with ⟨%K, #HI⟩
  have hK : iprop(records m K ∗ bigSep Finset.univ fun c : Dev nD => (linear c : sProp 𝕄)) ⊢ bigSep Finset.univ (G' m) := by
    refine (BI.sep_mono (BI.bigSep_of_persistent (Finset.univ : Finset (Dev nD)) (records m K)) (BI.Entails.refl _)).trans ?_
    show iprop((bigSep Finset.univ fun _ : Dev nD => records m K) ∗ bigSep Finset.univ fun c : Dev nD => linear c) ⊢ bigSep Finset.univ (G' m)
    rw [← bigSep_sep']
    exact bigSep_mono fun c _ => show iprop(records m K ∗ linear c) ⊢ G' m c from by
      unfold G'; iintro H; iexists K; iexact H
  iapply hK
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- The credit owed on the edges in `l` comes to each receiver. -/
theorem credOT (c : Dev nD) : ∀ l : List (Fin 10), (Pipeline.launchCred (fun d => OT d l) c : sProp 𝕄)
    ⊢ bigSepL l fun e => cred (tallyAt (rcvC c e) () N16)
  | [] => by
    show (Pipeline.launchCred (fun _ : Dev nD => (0 : CellTallies nD τ sig Unit)) c : sProp 𝕄) ⊢ iprop(emp)
    rw [Pipeline.launchCred_zero]
  | e :: l => by
    show (Pipeline.launchCred (fun d => OT d l + tallyAt (rcvC (peer d e) e) () N16) c : sProp 𝕄) ⊢ _
    rw [Pipeline.launchCred_add, bigSepL_cons]
    show _ ⊢ iprop(cred (tallyAt (rcvC c e) () N16) ∗ bigSepL l fun e => cred (tallyAt (rcvC c e) () N16))
    have h1 := credOT c l
    have h2 := Pipeline.launchCred_tallyAt (nD := nD) (τ := τ) (Val := Elt F) (Name := ℕ) (U := UU) (Lvl := ℕ) (.dma (rcvS e)) (px (dm e)) (px (dm e)) (px_px _) (px_px _) () N16 c
    iintro ⟨H, H'⟩
    isplitl [H']
    · iapply h2; iexact H'
    · iapply h1; iexact H

/-- The barrier units owed across the masks in `l` come to each device's barrier, one for each mask. -/
theorem credOB (c : Dev nD) : ∀ l : List (Fin 8), (Pipeline.launchCred (fun d => OB d l) c : sProp 𝕄)
    ⊢ iprop(cred (tallyAt (barC c) () l.length) ∗ Pipeline.launchCred (fun d => OT d order) c)
  | [] => by
    show (Pipeline.launchCred (fun d => OT d order) c : sProp 𝕄) ⊢ _
    rw [List.length_nil, tallyAt_zero, cred_zero]
    iintro H; isplitr; · iempintro
    iexact H
  | k :: l => by
    show (Pipeline.launchCred (fun d => OB d l + tallyAt (barC (px k d)) () 1) c : sProp 𝕄) ⊢ _
    rw [Pipeline.launchCred_add, List.length_cons, ← tallyAt_add]
    have h1 := credOB c l
    have h2 := Pipeline.launchCred_tallyAt (nD := nD) (τ := τ) (Val := Elt F) (Name := ℕ) (U := UU) (Lvl := ℕ) (.reg barS) (px k) (px k) (px_px _) (px_px _) () 1 c
    iintro ⟨H, H'⟩
    ihave H := h1 $$ H
    icases H with ⟨Hb, Ht⟩
    ihave H' := h2 $$ H'
    isplitr [Ht]
    · iapply (cred_add _ _).2
      isplitl [Hb] <;> iassumption
    · iexact Ht

/-- The credit each device starts with. -/
theorem creds (c : Dev nD) : (Pipeline.launchCred O₀ c : sProp 𝕄)
    ⊢ iprop(cred (tallyAt (barC c) () 4) ∗ bigSep Finset.univ fun e : Fin 10 => cred (tallyAt (rcvC c e) () N16)) := by
  refine (credOB c [1, 3, 4, 6]).trans (BI.sep_mono (BI.Entails.refl _) ((credOT c order).trans (Entails.of_eq ?_)))
  exact (bigSep_univ_eq_bigSepL order (by decide) (by decide) _).symm

/-- The body's rights, from what the launch dealt. -/
theorem rights_intro (c : Dev nD) : iprop(linear c ∗ Pipeline.launchCred O₀ c) ⊢ (rights c : sProp 𝕄) := by
  unfold linear payToks rights sTok busy tok
  rw [cells_fam c fun g => (atPos ER g 0 ∅ 0 : sProp 𝕄), fam8 fun k => (dutyTok ER (barC (px k c)) 0 k : sProp 𝕄)]
  simp only [bigSep_sep', role_rcv, roleAmt]
  iintro ⟨⟨⟨Hb, Ho, Hs, Hr⟩, ⟨-, H1, -, H3, H4, -, H6, -⟩, Do, Ds, Dr⟩, Hc⟩
  ihave Hc := (creds c) $$ Hc
  icases Hc with ⟨Cb, Cr⟩
  isplitl [Cb]; · iexact Cb
  isplitl [Hb]; · iexact Hb
  isplitl [H1 H3 H4 H6]
  · isplitl [H1]; · iexact H1
    isplitl [H3]; · iexact H3
    isplitl [H4] <;> iassumption
  isplitl [Hs Ds Dr]
  · isplitr [Dr]
    · isplitl [Ds] <;> iassumption
    · iexact Dr
  isplitl [Cr Hr]
  · isplitl [Cr] <;> iassumption
  isplitl [Do] <;> iassumption

end Cert.Exchange

end
-- ==== Proof.Launch.lean ====
/-
The run of the whole program: the launch gives each device its rights, the body runs, and every reachable result has each
device's result array holding the eight blocks, the input unchanged and every counter at zero.
-/
module

public import proofs.«01_k».proof.Proof.Funding
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body's one point starts from and leaves -/

def start (c : Dev nD) : sProp 𝕄 := iprop((∃ K, records m K) ∗ levAts L lv ∗ rights c ∗ outs₀ c)
/-- The result array holding the blocks. -/
def result (c : Dev nD) : sProp 𝕄 := iprop(∃ g : Buf (Elt F) (oL c), ⌜Holds m c g⌝ ∗ oL c ↦{fullShare} g)
def Φ₀ (c : Dev nD) : sProp 𝕄 := iprop(start m c ∗ scratch c)
def Φ₁ (c : Dev nD) : sProp 𝕄 := iprop(closed c ∗ scratch c ∗ result m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Device `c`'s staged input, at its contents. -/
abbrev stgd (c : Dev nD) (f : Buf (Elt F) (xL c)) : sProp 𝕄 := xL c ↦{fullShare} f

def bodyPre (c : Dev nD) : sProp 𝕄 :=
  iprop(Φ₀ m c ∗ (dats m ρ 0 c).owesAt () t0_0.castSucc ∗ ∃ d f, ⌜f = (dats m ρ 0 c).before (0 : Fin 1) t0_0 d⌝ ∗ stgd c f)
def bodyPost (c : Dev nD) : sProp 𝕄 :=
  iprop(Φ₁ m c ∗ (dats m ρ 0 c).owesAt () t0_0.succ ∗ ∃ f, ⌜f = xstg m c⌝ ∗ stgd c f)

theorem before_eq (c : Dev nD) (d) : (dats m ρ 0 c).before (0 : Fin 1) t0_0 d = xstg m c := by
  unfold Dat.before; rw [if_pos (fetch0_0 t0_0)]; rfl

theorem owes_in (c : Dev nD) : (dats m ρ 0 c).owesAt () t0_0.castSucc ⊢ ow c (O₀ c) := by
  unfold Dat.owesAt Pipeline.owesWithin ow
  iintro ⟨%W, -, H⟩; iexists W; iexact H
theorem owes_out (c : Dev nD) : ow c 0 ⊢ (dats m ρ 0 c).owesAt () t0_0.succ := by
  unfold Dat.owesAt Pipeline.owesWithin ow
  iintro ⟨%W, H⟩; iexists W
  isplitr; · ipureintro; exact fun _ _ => Or.inl trivial
  iexact H

theorem body_run (c : Dev nD) : bodyPre m ρ c ⊢ wpc c (cc0_body xM (Memref.isWhole_whole _) oM (Memref.isWhole_whole _) sM (Memref.isWhole_whole _)
    rM (Memref.isWhole_whole _) vM (Memref.isWhole_whole _) cc0_scratch3 cc0_scratch4 cc0_scratch5) (fun _ => bodyPost m ρ c) := by
  unfold bodyPre Φ₀ start
  iintro ⟨⟨⟨⟨%K, HR⟩, Hlev, Hri, Hout⟩, Hscr⟩, Ho, ⟨%d, %f, %hf, Hx⟩⟩
  rw [before_eq] at hf; subst hf
  ihave Ho := (owes_in m ρ c) $$ Ho
  ihave Hp := (pieces_intro m c) $$ [Hx Hscr]
  · isplitl [Hx] <;> iassumption
  iapply (sound_body m K c fun _ => bodyPost m ρ c)
  isplitl [HR]; · iexact HR
  isplitl [Hlev]; · iexact Hlev
  isplitl [Ho]; · iexact Ho
  isplitl [Hri]; · iexact Hri
  isplitl [Hp]; · iexact Hp
  isplitl [Hout]; · iexact Hout
  iintro ⟨Ho, Hc, Hp, Hout⟩
  ihave Ho := (owes_out m ρ c) $$ Ho
  ihave Hp := (pieces_elim m c) $$ Hp
  icases Hp with ⟨Hx, Hscr⟩
  ihave Hout := (outs_elim m c) $$ Hout
  unfold bodyPost Φ₁ result
  isplitl [Hc Hscr Hout]
  · isplitl [Hc]; · iexact Hc
    isplitl [Hscr]; · iexact Hscr
    iexact Hout
  isplitl [Ho]; · iexact Ho
  iexists xstg m c
  isplitr; · (ipureintro; rfl)
  iexact Hx

/-- What the pipeline calls at a point is the kernel's body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m ρ 0 c) (defs₀ (F := F)) 𝒱₀ () Set.univ := fun t => by
  rw [fin_N0 t]
  rw [bigSep_W0, bigSep_W0, defs₀_row]
  simp only [owns_whole_eq]
  exact body_run m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
      = (oL c ↦{fullShare} m (oL c)) from (Pipeline.unscopedRestP_none _ _ _).trans (unscopedRest0_eq c _)]
  unfold G'
  iintro ⟨Hout, Hlev, Hcr, -, ⟨%K, HR, Hl⟩⟩
  ihave Hri := (rights_intro (F := F) c) $$ [Hl Hcr]
  · isplitl [Hl] <;> iassumption
  ihave Hout := (show iprop(oL c ↦{fullShare} m (oL c)) ⊢ (outs₀ c : sProp 𝕄) from by
    iintro H; iapply (outs_intro (F := F) c); iexists m (oL c); iexact H) $$ Hout
  imodintro
  unfold start
  isplitl
  · isplitl [HR]; · iexists K; iexact HR
    isplitl [Hlev]; · iexact Hlev
    isplitl [Hri] <;> iassumption
  · iempintro

theorem scopedRest_eq (c : Dev nD) : (Pipeline.scopedRest cfg0.spec c : sProp 𝕄) = scratch c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_eq]
  unfold Φ₀
  iintro ⟨Hs, -, Hr⟩
  isplitl [Hs] <;> iassumption

theorem phi1_exit (c : Dev nD) :
    (dats m ρ 0 c).Φ (Fin.last cfg0.N)
      ⊢ iprop((unscopedSems0 c ∗ result m c) ∗ Pipeline.ownSems0 osem c ∗ Pipeline.scopedRest cfg0.spec c) := by
  rw [show (dats m ρ 0 c).Φ (Fin.last cfg0.N) = Φ₁ m c from rfl, scopedRest_eq, ownSems0_eq, unscopedSems0_eq]
  unfold Φ₁ closed
  iintro ⟨⟨Hb, Hs, Hr, Ho⟩, Hscr, Hres⟩
  isplitl [Hb Hres]
  · isplitl [Hb] <;> iassumption
  isplitl [Hs Hr Ho]
  · isplitl [Ho]; · iexact Ho
    isplitl [Hs] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What the final state shows of device `c` beyond the staged array: its unscoped counters at zero, and its result. -/
def Final (c : Dev nD) (s : MemSt nD τ sig (Elt F)) : Prop :=
  (∀ sm : SemLoc sig, sm.isScoped .tc = false → s.sem ((c.tc : Thread nD τ), sm) = 0) ∧ Holds m c (s.mem (oL c))

theorem final_read (c : Dev nD) (s' : Phys nD τ sig (Elt F)) : iprop((unscopedSems0 c ∗ result m c) ∗ emp ∗ SI s')
    ⊢ |={Set.univ}=> iprop(⌜Final m c s'.mem⌝ ∗ SI s') := by
  unfold result
  iintro ⟨⟨Hu, ⟨%g, %hg, Hg⟩⟩, -, HSI⟩
  icombine HSI Hg gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, by rw [Buf.eq_of_forall_mem_univ h]; exact hg⟩
  · iexact HSI

/-! ## The run -/

set_option maxRecDepth 8000 in
/-- From any memory with zero counters, every weakly fair execution of the program terminates, and every final state has each
    device's input unchanged, its result array holding the blocks, and every counter at zero. -/
theorem run_main : θ_run defs (onTc (τ := τ) (main (F := F))) (s₀ m ρ) (fun r =>
    (∀ c : Dev nD, r.2.mem ((c.tc : Thread nD τ).loc main_arg0) = m ((c.tc : Thread nD τ).loc main_arg0) ∧ Holds m c (r.2.mem (oL c)))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ result m c)) (Z := fun _ => iprop(emp))
    (hX := start_intro m ρ) (hin := phi0_intro m ρ) (hout := phi1_exit m ρ)
    (QY := Final m) (hY := final_read m)
    (hQ := fun _ h hs => ⟨fun c => ⟨((h c).1 0).trans ((dats m ρ 0 c).arrAt_in 0 rfl _), (h c).2.2.2⟩, sem_eq_zero hs fun c => (h c).2.2.1⟩)

end Cert.Exchange

end
-- ==== Proof.Value.lean ====
/-
What the result array holds when a number narrowed and widened again is itself: each device's column block of the whole
array, whose rows lie on the eight devices.
-/
module

public import proofs.«01_k».proof.Proof.Launch
public import Idealize.ShloMosaic.Lib.Layout
public import Idealize.ShloMosaic.Lib.Pipeline.Value
public import Idealize.ShloMosaic.PureOps.Ideal

@[expose] public section

noncomputable section

namespace Cert.Exchange

open Cert.KernelIdeal Cert.KernelIdeal.Gen

open Idealize.ShloMosaic
open Idealize.ShloMosaic.TcCoe

section Staged

variable {F : FTy → Type} [FloatOps F] (m : (ℓ : Loc nD τ sig) → Buf (Elt F) ℓ)

/-- The one staged block is the whole input array. -/
theorem xstg_eq (c : Dev nD) : xstg m c = m ((c : Thread nD τ).loc main_arg0) := by
  funext i
  show m ((c : Thread nD τ).loc main_arg0) _ = _
  exact congrArg (m ((c : Thread nD τ).loc main_arg0)) (funext fun a => Fin.ext (Pipeline.Window.rect_emb_val_of_index_zero win0_0 (0 : Fin 1) a rfl i))

end Staged

variable (m : (ℓ : Loc nD τ sig) → Buf (Elt Ideal) ℓ)

/-- Narrowed and widened, a block is itself. -/
theorem up_dn (X : Vec Ideal S512x512 .f32) : up (dn X) = X := by
  unfold up dn k0_pay1
  dsimp only
  rw [shapeCast_self, shapeCast_self]
  rfl

theorem outX_ideal (c : Dev nD) (k : Fin 8) : outX m c k = xb m (px k c) c := by
  unfold outX
  split
  · next h => rw [h, px_zero]
  · exact up_dn _

/-- The result array is the device's block of columns of the whole array. -/
theorem holds_block (c : Dev nD) (g : Buf (Elt Ideal) (oL c)) (hg : Holds m c g)
    (X : (⟨2, ![4096, 4096]⟩ : Shape).Idx → EReal)
    (hX : ∀ d : Dev nD, m ((d : Thread nD τ).loc main_arg0) = Layout.block ⟨2, ![512, 4096]⟩ ⟨2, ![4096, 4096]⟩ 0 8 d X) :
    g = Layout.block ⟨2, ![4096, 512]⟩ ⟨2, ![4096, 4096]⟩ 1 8 c X := by
  funext j
  have h0 : (j 0).val < 4096 := (j 0).isLt
  have h1 : (j 1).val < 512 := (j 1).isLt
  have hr : (j 0).val % 512 < 512 := Nat.mod_lt _ (by decide)
  let k : Fin 8 := ⟨(j 0).val / 512, by omega⟩
  let i : S512x512.Idx := Shape.pair ⟨(j 0).val % 512, hr⟩ ⟨(j 1).val, h1⟩
  have hk : px (px k c) c = k := (pxR c).right_inv k
  have h := congrFun (hg (px k c)) i
  rw [outX_ideal, hk] at h
  have hj : (Rect.unit (s := S4096x512) ![512 * k.val, 0] S512x512.size (inbR k)).emb i = j := by
    funext a; apply Fin.ext; fin_cases a
    · show 512 * ((j 0).val / 512) + 1 * ((j 0).val % 512) = (j 0).val; omega
    · show 0 + 1 * (j 1).val = (j 1).val; omega
  have hl : (oR k).view.read (Elt Ideal) g i = g j := (show _ = g ((Rect.unit (s := S4096x512) ![512 * k.val, 0] S512x512.size (inbR k)).emb i) from rfl).trans (congrArg g hj)
  rw [← hl, h]
  unfold xb
  rw [xstg_eq, hX]
  show X _ = X _
  refine congrArg X (funext fun a => Fin.ext ?_)
  fin_cases a
  · show ((j 0).val / 512) * 512 + (0 + 1 * ((j 0).val % 512)) = (j 0).val; omega
  · show 512 * c.val + 1 * (j 1).val = c.val * 512 + (j 1).val; omega

end Cert.Exchange

end
-- ==== Proof.Reference.lean ====
/-
The run of the reference: it returns its argument, so every result has it unchanged.
-/
module

public import proofs.«01_k».proof.Proof.Gen.ReferenceIdeal
public import Idealize.ShloMosaic.Lib.StableHlo.Run
public import Idealize.ShloMosaic.Lib.Quiescent

@[expose] public section

noncomputable section

namespace Cert.Exchange.Reference

open Cert.ReferenceIdeal
open Idealize.ShloMosaic Idealize.SL.Sem Idealize.ShloMosaic.StableHlo

variable {F : FTy → Type} [FloatOps F]

theorem no_scoped_buffer : (Finset.univ.filter fun b : Ref sig .tc => b.isScoped) = ∅ := by decide
theorem no_scoped_counter : (Finset.univ.filter fun sm : SemLoc sig => sm.isScoped .tc) = ∅ := by decide

theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq no_scoped_buffer no_scoped_counter defs main (fun _ => []) (fun _ => rfl) (fun _ => trivial) m ρ)

end Cert.Exchange.Reference

end
-- ==== Proof.lean ====
/-
The five claims: the kernel's run for any float values, read at the bits and over the reals; the reference's run; and the
kernel's result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- For any float values the kernel terminates with its input unchanged and every counter at zero. -/
theorem frame_any (F : FTy → Type) [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (Cert.Exchange.run_main m ρ)

/-- The kernel's two printings have one table of bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : Cert.Kernel.defs (F := Bits) = Cert.KernelIdeal.defs (F := Bits) := by
  unfold Cert.Kernel.defs Cert.KernelIdeal.defs
  rw [defs₀_eq]; rfl

/-- The kernel at the bits is the same text, so it is the same run. -/
theorem frame_kernel : Cert.quiescent_Kernel := fun m ρ _ => by
  rw [defs_eq]; exact frame_any Bits m ρ

theorem frame_kernelIdeal : Cert.quiescent_KernelIdeal := fun m ρ _ => frame_any Ideal m ρ

theorem frame_referenceIdeal : Cert.quiescent_ReferenceIdeal := fun m ρ _ => Cert.Exchange.Reference.run_main (F := Ideal) m ρ

/-- Every reachable result has each device's result array at its block of columns of the reference's result. -/
theorem algebraic : Cert.algebraic_KernelIdeal_ReferenceIdeal := fun m ρ m' ρ' _ hin =>
  ⟨_, (θ_run Cert.KernelIdeal.defs _ _).mono (fun _ h c => ⟨Cert.Exchange.holds_block m c _ (h.1 c).2 _ hin, (h.1 c).1⟩)
      (Cert.Exchange.run_main (F := Ideal) m ρ),
    (θ_run Cert.ReferenceIdeal.defs _ _).mono (fun _ h => ⟨h.1 0, h.1 0⟩) (Cert.Exchange.Reference.run_main (F := Ideal) m' ρ')⟩

theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
